-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![512, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S128x512 : Shape := ⟨2, ![128, 512]⟩
abbrev S512x2 : Shape := ⟨2, ![512, 2]⟩
abbrev S3x128x512 : Shape := ⟨3, ![3, 128, 512]⟩
abbrev S3 : Shape := ⟨1, ![3]⟩
abbrev S_ : Shape := ⟨0, ![]⟩
abbrev S1x2 : Shape := ⟨2, ![1, 2]⟩
abbrev S512x512 : Shape := ⟨2, ![512, 512]⟩
abbrev S128x256 : Shape := ⟨2, ![128, 256]⟩
abbrev S128x1 : Shape := ⟨2, ![128, 1]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S128x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S128x512, .f32⟩
  | .local _ .vmem, ⟨4, _⟩ => ⟨S512x2, .f32⟩
  | .local _ .vmem, ⟨5, _⟩ => ⟨S3x128x512, .bf16⟩
  | .local _ .vmem, ⟨6, _⟩ => ⟨S3x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.addi v2 c2_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c128_i32 : BitVec 32 := 128#32
  let v80 : BitVec 32 := Scalar.muli v79 c128_i32
  let v81 : Index := Scalar.indexCast v80
  let c0_42 : Index := 0#32
  ![v81.toNat, 0]
def k0_off2 (d0 : Dev nD) (c2_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.addi v2 c2_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c128_i32 : BitVec 32 := 128#32
  let v80 : BitVec 32 := Scalar.muli v79 c128_i32
  let v84 : Index := Scalar.indexCast v80
  let c0_43 : Index := 0#32
  ![v84.toNat, 0]
def k0_off3 (d0 : Dev nD) (c2_i32_35 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.addi v2 c2_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c128_i32 : BitVec 32 := 128#32
  let v80 : BitVec 32 := Scalar.muli v79 c128_i32
  let v91 : Index := Scalar.indexCast v80
  let c1 : Index := 1#32
  ![v91.toNat, 1]
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v69 : BitVec 32 := Scalar.addi v2 c2_i32_35
  let c4_i32_36 : BitVec 32 := 4#32
  let c0_i32_37 : BitVec 32 := 0#32
  let v70 : BitVec 1 := Scalar.cmpi .eq c4_i32_36 c0_i32_37
  let c1_i32_38 : BitVec 32 := 1#32
  let v71 : BitVec 32 := Scalar.select v70 c1_i32_38 c4_i32_36
  let v72 : BitVec 32 := Scalar.remsi v69 v71
  let c0_i32_40 : BitVec 32 := 0#32
  let v74 : BitVec 1 := Scalar.cmpi .slt v72 c0_i32_40
  let c0_i32_41 : BitVec 32 := 0#32
  let v75 : BitVec 1 := Scalar.cmpi .slt v71 c0_i32_41
  let v76 : BitVec 1 := Scalar.xori v74 v75
  let c0_i32_39 : BitVec 32 := 0#32
  let v73 : BitVec 1 := Scalar.cmpi .ne v72 c0_i32_39
  let v77 : BitVec 1 := Scalar.andi v76 v73
  let v78 : BitVec 32 := Scalar.addi v72 v71
  let v79 : BitVec 32 := Scalar.select v77 v78 v72
  let c1_i32_59 : BitVec 32 := 1#32
  let v103 : BitVec 32 := Scalar.muli v79 c1_i32_59
  let v104 : BitVec 32 := Scalar.addi c0_i32_60 v103
  v104.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_65 : BitVec 32 := 1#32
  let v113 : BitVec 32 := Scalar.addi v2 c1_i32_65
  let c4_i32_66 : BitVec 32 := 4#32
  let c0_i32_67 : BitVec 32 := 0#32
  let v114 : BitVec 1 := Scalar.cmpi .eq c4_i32_66 c0_i32_67
  let c1_i32_68 : BitVec 32 := 1#32
  let v115 : BitVec 32 := Scalar.select v114 c1_i32_68 c4_i32_66
  let v116 : BitVec 32 := Scalar.remsi v113 v115
  let c0_i32_70 : BitVec 32 := 0#32
  let v118 : BitVec 1 := Scalar.cmpi .slt v116 c0_i32_70
  let c0_i32_71 : BitVec 32 := 0#32
  let v119 : BitVec 1 := Scalar.cmpi .slt v115 c0_i32_71
  let v120 : BitVec 1 := Scalar.xori v118 v119
  let c0_i32_69 : BitVec 32 := 0#32
  let v117 : BitVec 1 := Scalar.cmpi .ne v116 c0_i32_69
  let v121 : BitVec 1 := Scalar.andi v120 v117
  let v122 : BitVec 32 := Scalar.addi v116 v115
  let v123 : BitVec 32 := Scalar.select v121 v122 v116
  let c1_i32_91 : BitVec 32 := 1#32
  let v147 : BitVec 32 := Scalar.muli v123 c1_i32_91
  let v148 : BitVec 32 := Scalar.addi c0_i32_92 v147
  v148.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_97 : BitVec 32 := 3#32
  let v157 : BitVec 32 := Scalar.addi v2 c3_i32_97
  let c4_i32_98 : BitVec 32 := 4#32
  let c0_i32_99 : BitVec 32 := 0#32
  let v158 : BitVec 1 := Scalar.cmpi .eq c4_i32_98 c0_i32_99
  let c1_i32_100 : BitVec 32 := 1#32
  let v159 : BitVec 32 := Scalar.select v158 c1_i32_100 c4_i32_98
  let v160 : BitVec 32 := Scalar.remsi v157 v159
  let c0_i32_102 : BitVec 32 := 0#32
  let v162 : BitVec 1 := Scalar.cmpi .slt v160 c0_i32_102
  let c0_i32_103 : BitVec 32 := 0#32
  let v163 : BitVec 1 := Scalar.cmpi .slt v159 c0_i32_103
  let v164 : BitVec 1 := Scalar.xori v162 v163
  let c0_i32_101 : BitVec 32 := 0#32
  let v161 : BitVec 1 := Scalar.cmpi .ne v160 c0_i32_101
  let v165 : BitVec 1 := Scalar.andi v164 v161
  let v166 : BitVec 32 := Scalar.addi v160 v159
  let v167 : BitVec 32 := Scalar.select v165 v166 v160
  let c1_i32_122 : BitVec 32 := 1#32
  let v191 : BitVec 32 := Scalar.muli v167 c1_i32_122
  let v192 : BitVec 32 := Scalar.addi c0_i32_123 v191
  v192.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_128 : BitVec 32 := 128#32
  let v201 : BitVec 32 := Scalar.muli v2 c128_i32_128
  let v202 : Index := Scalar.indexCast v201
  let c0_129 : Index := 0#32
  ![v202.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_128 : BitVec 32 := 128#32
  let v201 : BitVec 32 := Scalar.muli v2 c128_i32_128
  let v205 : Index := Scalar.indexCast v201
  let c0_130 : Index := 0#32
  ![v205.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_128 : BitVec 32 := 128#32
  let v201 : BitVec 32 := Scalar.muli v2 c128_i32_128
  let v212 : Index := Scalar.indexCast v201
  let c1_135 : Index := 1#32
  ![v212.toNat, 1]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x8 : Shape := ⟨2, ![256, 8]⟩
abbrev S512x1 : Shape := ⟨2, ![512, 1]⟩
abbrev S8x256x512 : Shape := ⟨3, ![8, 256, 512]⟩
abbrev S512 : Shape := ⟨1, ![512]⟩
abbrev S8 : Shape := ⟨1, ![8]⟩
abbrev S1x8 : Shape := ⟨2, ![1, 8]⟩
abbrev S512x8 : Shape := ⟨2, ![512, 8]⟩
abbrev S_ : Shape := ⟨0, ![]⟩
abbrev S512x256x512 : Shape := ⟨3, ![512, 256, 512]⟩
abbrev S512x512 : Shape := ⟨2, ![512, 512]⟩

abbrev nBuf : Space → Nat
  | .hbm => 30
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S8x256x512, .f32⟩
  | .hbm, ⟨4, _⟩ => ⟨S512, .i32⟩
  | .hbm, ⟨5, _⟩ => ⟨S512x1, .i32⟩
  | .hbm, ⟨6, _⟩ => ⟨S8, .i32⟩
  | .hbm, ⟨7, _⟩ => ⟨S1x8, .i32⟩
  | .hbm, ⟨8, _⟩ => ⟨S512x8, .i32⟩
  | .hbm, ⟨9, _⟩ => ⟨S512x8, .i32⟩
  | .hbm, ⟨10, _⟩ => ⟨S512x8, .i1⟩
  | .hbm, ⟨11, _⟩ => ⟨S512x8, .i32⟩
  | .hbm, ⟨12, _⟩ => ⟨S_, .i32⟩
  | .hbm, ⟨13, _⟩ => ⟨S_, .i32⟩
  | .hbm, ⟨14, _⟩ => ⟨S512x8, .i32⟩
  | .hbm, ⟨15, _⟩ => ⟨S_, .i32⟩
  | .hbm, ⟨16, _⟩ => ⟨S512x8, .i32⟩
  | .hbm, ⟨17, _⟩ => ⟨S512x8, .i1⟩
  | .hbm, ⟨18, _⟩ => ⟨S512x8, .i1⟩
  | .hbm, ⟨19, _⟩ => ⟨S_, .i1⟩
  | .hbm, ⟨20, _⟩ => ⟨S512, .i1⟩
  | .hbm, ⟨21, _⟩ => ⟨S512x1, .i32⟩
  | .hbm, ⟨22, _⟩ => ⟨S512x256x512, .f32⟩
  | .hbm, ⟨23, _⟩ => ⟨S512x512, .f32⟩
  | .hbm, ⟨24, _⟩ => ⟨S512x1, .i1⟩
  | .hbm, ⟨25, _⟩ => ⟨S_, .f32⟩
  | .hbm, ⟨26, _⟩ => ⟨S_, .f32⟩
  | .hbm, ⟨27, _⟩ => ⟨S512x512, .i1⟩
  | .hbm, ⟨28, _⟩ => ⟨S512x512, .f32⟩
  | .hbm, ⟨29, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v16 : Ref sig .tc := ⟨.hbm, 29, rfl⟩

abbrev nD : Nat := 1
abbrev τ : Topo := Topo.v7x

variable {F : FTy → Type} [FloatOps F]
-- ==== Proof.IdealProto.lean ====
/-
# The exchange between the four devices

Every device tells each of the three others that it is ready, on the barrier semaphore, and waits until all three have
told it. Then it stores three blocks in its send buffer and copies each into a slot of another device's receive buffer.

Numbering. Slot `s` of device `c`'s receive buffer is written by device `fw s c`, which is `c + 1 + s` modulo four. That
device copies its send slot `js s` there. The device whose slot `s` is written by `c` is `bk s c`.

Duties. The barrier cell of `d` has one round with three duties of one unit, duty `s` paid by `bk s d`, which hands over
slot `s` of its receive buffer. A receive cell and a send cell have one round with one duty each: the receive cell's
hands over the slot with the block in it, the send cell's hands the send slot back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own part of the ghost state: rounds whose duties are numbered by `Fin 3`. -/
abbrev UX : Type := URounds (GSem nD τ sig) (Fin 3)
/-- The staging part and the exchange part. -/
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Who talks to whom -/

/-- The device that writes slot `s` of `c`. -/
def fw (s : Fin 3) (c : Dev nD) : Dev nD := ⟨(c.val + 1 + s.val) % 4, Nat.mod_lt _ (by decide)⟩
/-- The device whose slot `s` is written by `c`. -/
def bk (s : Fin 3) (c : Dev nD) : Dev nD := ⟨(c.val + 3 - s.val) % 4, Nat.mod_lt _ (by decide)⟩
/-- The send slot that goes to receive slot `s`. -/
def js (s : Fin 3) : Fin 3 := ⟨(s.val + 2) % 3, Nat.mod_lt _ (by decide)⟩

theorem bk_fw (s : Fin 3) (c : Dev nD) : bk s (fw s c) = c := by revert s c; decide
theorem fw_bk (s : Fin 3) (c : Dev nD) : fw s (bk s c) = c := by revert s c; decide

/-- Going to the writer of slot `s` is a permutation of the devices. -/
def around (s : Fin 3) : Dev nD ≃ Dev nD := ⟨fw s, bk s, bk_fw s, fw_bk s⟩

theorem dev1_eq (c : Dev nD) : (⟨k0_dev1 c, k0_dev1_lt c⟩ : Dev nD) = fw 0 c := by revert c; decide +kernel
theorem dev2_eq (c : Dev nD) : (⟨k0_dev2 c, k0_dev2_lt c⟩ : Dev nD) = fw 1 c := by revert c; decide +kernel
theorem dev3_eq (c : Dev nD) : (⟨k0_dev3 c, k0_dev3_lt c⟩ : Dev nD) = fw 2 c := by revert c; decide +kernel
theorem dev4_eq (c : Dev nD) : (⟨k0_dev4 c, k0_dev4_lt c⟩ : Dev nD) = bk 1 c := by revert c; decide +kernel
theorem dev5_eq (c : Dev nD) : (⟨k0_dev5 c, k0_dev5_lt c⟩ : Dev nD) = bk 2 c := by revert c; decide +kernel
theorem dev6_eq (c : Dev nD) : (⟨k0_dev6 c, k0_dev6_lt c⟩ : Dev nD) = bk 0 c := by revert c; decide +kernel

/-! ## The buffers -/

abbrev xM : Memref sig .tc .vmem S512x256 .f32 := Memref.whole cc0_stg0_0
abbrev iM : Memref sig .tc .vmem S512x1 .i32 := Memref.whole cc0_stg1_0
abbrev wM : Memref sig .tc .vmem S2x256x512 .f32 := Memref.whole cc0_stg2_0
abbrev oM : Memref sig .tc .vmem S128x512 .f32 := Memref.whole cc0_stg3_0
abbrev kM : Memref sig .tc .vmem S512x2 .f32 := Memref.whole cc0_scratch0
abbrev sM : Memref sig .tc .vmem S3x128x512 .bf16 := Memref.whole cc0_scratch1
abbrev rM : Memref sig .tc .vmem S3x128x512 .bf16 := Memref.whole cc0_scratch2

theorem slot_inb (j : Fin 3) : ∀ a : Fin 3, (![j.val, 0, 0] : Fin 3 → ℕ) a + S1x128x512.size a ≤ S3x128x512.size a := by
  revert j; decide

/-- Slot `j` of a buffer of three blocks. -/
abbrev slotR (j : Fin 3) : Rect S3x128x512 := Rect.unit (s := S3x128x512) ![j.val, 0, 0] S1x128x512.size (slot_inb j)
/-- Slot `j` of the send buffer, as the copies see it. -/
abbrev sSlot (j : Fin 3) : Memref sig .tc .vmem S128x512 .bf16 :=
  (sM.slice (slotR j) (fun _ => rfl)).squeeze S128x512 squeezes_S1x128x512_S128x512
/-- Slot `s` of the receive buffer, as the copies see it. -/
abbrev rSlot (s : Fin 3) : Memref sig .tc .vmem S128x512 .bf16 :=
  (rM.slice (slotR s) (fun _ => rfl)).squeeze S128x512 squeezes_S1x128x512_S128x512

/-! ## The semaphores -/

/-- The barrier semaphore, shared by all kernels of the device. -/
abbrev barS : Sem sig := (SemArray.scalar (sig.barrier 0 rfl) : Sems sig S_).sem

theorem sem_inb (j : Fin 3) : ∀ a : Fin 1, (![j.val] : Fin 1 → ℕ) a + S1.size a ≤ S3.size a := by revert j; decide

abbrev sendS (j : Fin 3) : DmaSem sig := ((cc0_scratch3.slice (Rect.unit (s := S3) ![j.val] S1.size (sem_inb j))).squeeze S_ squeezes_S1_S_).sem
abbrev recvS (s : Fin 3) : DmaSem sig := ((cc0_scratch4.slice (Rect.unit (s := S3) ![s.val] S1.size (sem_inb s))).squeeze S_ squeezes_S1_S_).sem

/-- The cells of one device: the barrier, the three send cells (`false`), the three receive cells (`true`). -/
abbrev CK : Type := Option (Bool × Fin 3)
/-- The kernel's own semaphores. -/
abbrev osem : Bool × Fin 3 → SemLoc sig := fun x => if x.1 then .dma (recvS x.2) else .dma (sendS x.2)
abbrev csem : CK → SemLoc sig := fun | none => .reg barS | some x => osem x
abbrev kcell (ck : Dev nD × CK) : GSem nD τ sig := ((ck.1 : Thread nD τ), csem ck.2)

abbrev barCell (c : Dev nD) : GSem nD τ sig := ((c : Thread nD τ), .reg barS)
abbrev sendCell (c : Dev nD) (j : Fin 3) : GSem nD τ sig := ((c : Thread nD τ), .dma (sendS j))
abbrev recvCell (c : Dev nD) (s : Fin 3) : GSem nD τ sig := ((c : Thread nD τ), .dma (recvS s))

/-- What one copy of a slot adds to a cell. -/
abbrev N : ℕ := (rSlot 0).view.dmaCredit
theorem N_pos : 0 < N := View.dmaCredit_pos _ (by decide)

/-! ## Contents -/

/-- `x` in the device's staging buffer. -/
def xstg (c : Dev nD) : (cc0_stg0_0 : Ref sig .tc).ty.Contents (Elt F) :=
  (win0_0.blk (0 : Fin 1)).view.read (Elt F) ((s₀ m ρ).mem ((c : Thread nD τ).loc main_arg0))
/-- The chosen experts in the device's staging buffer. -/
def istg (c : Dev nD) : (cc0_stg1_0 : Ref sig .tc).ty.Contents (Elt F) :=
  (win0_1.blk (0 : Fin 1)).view.read (Elt F) ((s₀ m ρ).mem ((c : Thread nD τ).loc main_arg2))
/-- The device's two experts in its staging buffer. -/
def wstg (c : Dev nD) : (cc0_stg2_0 : Ref sig .tc).ty.Contents (Elt F) :=
  (win0_2.blk (0 : Fin 1)).view.read (Elt F) ((s₀ m ρ).mem ((c : Thread nD τ).loc main_arg3))

abbrev iR : Rect S512x1 := Rect.unit (s := S512x1) ![0, 0] S512x1.size inb_S512x1_S512x1_0_0
abbrev kR : Rect S512x2 := Rect.unit (s := S512x2) ![0, 0] S512x2.size inb_S512x2_S512x2_0_0
abbrev oR : Rect S128x512 := Rect.unit (s := S128x512) ![0, 0] S128x512.size inb_S128x512_S128x512_0_0

/-- The device's number as the kernel computes it. -/
abbrev devWord (c : Dev nD) : BitVec 32 := Scalar.remsi (Scalar.divsi (Dev.word c) 1#32) 4#32

/-- Which tokens the device's two experts keep. -/
def keepAt (c : Dev nD) : (cc0_scratch0 : Ref sig .tc).ty.Contents (Elt F) :=
  k0_pay1 (F := F) (devWord c) (iM.view.readAt (Elt F) iR.toLoadRect (istg m ρ c))

/-- The device's expert `e`. -/
abbrev w0 (c : Dev nD) : Vec F S1x256x512 .f32 :=
  wM.view.readAt (Elt F) (Rect.unit (s := S2x256x512) ![0, 0, 0] S1x256x512.size inb_S2x256x512_S1x256x512_0_0_0).toLoadRect (wstg m ρ c)
abbrev w1 (c : Dev nD) : Vec F S1x256x512 .f32 :=
  wM.view.readAt (Elt F) (Rect.unit (s := S2x256x512) ![1, 0, 0] S1x256x512.size inb_S2x256x512_S1x256x512_1_0_0).toLoadRect (wstg m ρ c)
/-- The tokens of the block `o` devices further, and their two columns of `keepAt`. -/
abbrev xAt (c : Dev nD) (r : Fin 3) : Vec F S128x256 .f32 :=
  xM.view.readAt (Elt F) (Rect.unit (s := S512x256) (k0_off1 c (BitVec.ofNat 32 (1 + r.val))) S128x256.size (k0_off1_inb c r)).toLoadRect (xstg m ρ c)
abbrev k0At (c : Dev nD) (r : Fin 3) : Vec F S128x1 .f32 :=
  kM.view.readAt (Elt F) (Rect.unit (s := S512x2) (k0_off2 c (BitVec.ofNat 32 (1 + r.val))) S128x1.size (k0_off2_inb c r)).toLoadRect (keepAt m ρ c)
abbrev k1At (c : Dev nD) (r : Fin 3) : Vec F S128x1 .f32 :=
  kM.view.readAt (Elt F) (Rect.unit (s := S512x2) (k0_off3 c (BitVec.ofNat 32 (1 + r.val))) S128x1.size (k0_off3_inb c r)).toLoadRect (keepAt m ρ c)

/-- What the device stores in send slot `j`. -/
def sendVal (c : Dev nD) : Fin 3 → Vec F S1x128x512 .bf16
  | 0 => k0_pay2 (xAt m ρ c 1) (k0At m ρ c 1) (w0 m ρ c) (k1At m ρ c 1) (w1 m ρ c)
  | 1 => k0_pay6 (k0_pay4 (xAt m ρ c 0) (k0At m ρ c 0) (w0 m ρ c)) (k0_pay5 (xAt m ρ c 0) (k1At m ρ c 0)) (w1 m ρ c)
  | 2 => k0_pay8 (k0_pay7 (xAt m ρ c 2)) (k0At m ρ c 2) (w0 m ρ c) (k1At m ρ c 2) (w1 m ρ c)

/-- The device's own contribution to its block of the result. -/
def ownVal (c : Dev nD) : Vec F S128x512 .f32 :=
  k0_pay10 (k0_pay9 (xM.view.readAt (Elt F) (Rect.unit (s := S512x256) (k0_off4 c) S128x256.size (k0_off4_inb c)).toLoadRect (xstg m ρ c)))
    (kM.view.readAt (Elt F) (Rect.unit (s := S512x2) (k0_off5 c) S128x1.size (k0_off5_inb c)).toLoadRect (keepAt m ρ c)) (w0 m ρ c)
    (kM.view.readAt (Elt F) (Rect.unit (s := S512x2) (k0_off6 c) S128x1.size (k0_off6_inb c)).toLoadRect (keepAt m ρ c)) (w1 m ρ c)

/-- What arrives in receive slot `s`. -/
def recvVal (c : Dev nD) (s : Fin 3) : Vec F S1x128x512 .bf16 := sendVal m ρ (fw s c) (js s)

/-- The device's block of the result. -/
def outAt (c : Dev nD) : (cc0_stg3_0 : Ref sig .tc).ty.Contents (Elt F) :=
  k0_pay11 (ownVal m ρ c) (recvVal m ρ c 0) (recvVal m ρ c 1) (recvVal m ρ c 2)

/-! ## The slots as memory -/

def sPts (c : Dev nD) (j : Fin 3) (f : Buf (Elt F) ((sSlot j).view.loc (c : Thread nD τ))) : sProp 𝕄 :=
  (sSlot j).view.loc (c : Thread nD τ) ↦[(sSlot j).view.set]{fullShare} f
def rPts (c : Dev nD) (s : Fin 3) (f : Buf (Elt F) ((rSlot s).view.loc (c : Thread nD τ))) : sProp 𝕄 :=
  (rSlot s).view.loc (c : Thread nD τ) ↦[(rSlot s).view.set]{fullShare} f

omit [FloatOps F] in
instance sPts_storable (c : Dev nD) (j) (f) : BI.Storable (upEmb : UEmb _ 𝕄) (sPts (F := F) c j f) := by unfold sPts; infer_instance
omit [FloatOps F] in
instance rPts_storable (c : Dev nD) (s) (f) : BI.Storable (upEmb : UEmb _ 𝕄) (rPts (F := F) c s f) := by unfold rPts; infer_instance

theorem sSlot_set (j : Fin 3) : (sSlot j).view.set = (slotR j).set := by
  show ((View.whole cc0_scratch1).slice (slotR j) |>.reshape _ _).set = _
  rw [View.set_reshape, View.set_slice_whole]
theorem rSlot_set (s : Fin 3) : (rSlot s).view.set = (slotR s).set := by
  show ((View.whole cc0_scratch2).slice (slotR s) |>.reshape _ _).set = _
  rw [View.set_reshape, View.set_slice_whole]

/-- A copy of send slot `j` into receive slot `s` puts there what send slot `j` holds. -/
theorem landed_eq (s j : Fin 3) (fd : (cc0_scratch2 : Ref sig .tc).ty.Contents (Elt F)) (fs : (cc0_scratch1 : Ref sig .tc).ty.Contents (Elt F)) :
    rM.view.readAt (Elt F) (slotR s).toLoadRect ((rSlot s).view.write (Elt F) fd ((sSlot j).view.read (Elt F) fs) Finset.univ)
      = sM.view.readAt (Elt F) (slotR j).toLoadRect fs := by
  have h := View.read_write_univ (Val := Elt F) (v := (rSlot s).view) fd ((sSlot j).view.read (Elt F) fs)
  have h1 := Memref.read_squeeze_slice (Val := Elt F) rM (slotR s) (fun _ => rfl) squeezes_S1x128x512_S128x512 shapeCasts_S1x128x512_S128x512
    ((rSlot s).view.write (Elt F) fd ((sSlot j).view.read (Elt F) fs) Finset.univ)
  have h2 := Memref.read_squeeze_slice (Val := Elt F) sM (slotR j) (fun _ => rfl) squeezes_S1x128x512_S128x512 shapeCasts_S1x128x512_S128x512 fs
  have h3 := (h1.symm.trans h).trans h2
  have h4 := congrArg (fun v => shapeCast S1x128x512 v shapeCasts_S128x512_S1x128x512) h3
  simpa only [shapeCast_shapeCast, shapeCast_self] using h4

/-! ## The schedule -/

/-- Which cell of a device a semaphore is. -/
def kindOf : SemLoc sig → Option CK
  | .reg _ => some none
  | .dma q =>
    if 4 ≤ q.val ∧ q.val < 7 then some (some (false, ⟨(q.val - 4) % 3, Nat.mod_lt _ (by decide)⟩))
    else if 7 ≤ q.val then some (some (true, ⟨(q.val - 7) % 3, Nat.mod_lt _ (by decide)⟩)) else none

theorem kindOf_csem (k : CK) : kindOf (csem k) = some k := by revert k; decide
theorem kindOf_bar : kindOf (.reg barS) = some none := rfl
theorem kindOf_send (j : Fin 3) : kindOf (.dma (sendS j)) = some (some (false, j)) := kindOf_csem (some (false, j))
theorem kindOf_recv (s : Fin 3) : kindOf (.dma (recvS s)) = some (some (true, s)) := kindOf_csem (some (true, s))

/-- With its signal to `d`, device `bk s d` hands over slot `s` of its receive buffer. -/
def barPay (d : Dev nD) (s : Fin 3) : sProp 𝕄 := iprop(∃ f, rPts (bk s d) s f)
/-- A full receive slot. -/
def recvPay (c : Dev nD) (s : Fin 3) : sProp 𝕄 :=
  iprop(∃ f, ⌜rM.view.readAt (Elt F) (slotR s).toLoadRect f = recvVal m ρ c s⌝ ∗ rPts c s f)
/-- A send slot, given back. -/
def sendPay (c : Dev nD) (j : Fin 3) : sProp 𝕄 := iprop(∃ f, sPts c j f)

omit [FloatOps F] in
instance barPay_storable (c : Dev nD) (s) : BI.Storable (upEmb : UEmb _ 𝕄) (barPay (F := F) c s) := by unfold barPay; infer_instance
instance recvPay_storable (c : Dev nD) (s) : BI.Storable (upEmb : UEmb _ 𝕄) (recvPay (F := F) m ρ c s) := by unfold recvPay; infer_instance
omit [FloatOps F] in
instance sendPay_storable (c : Dev nD) (s) : BI.Storable (upEmb : UEmb _ 𝕄) (sendPay (F := F) c s) := by unfold sendPay; infer_instance

/-- The rounds: one per cell. -/
def Rd : Rounds.Schedule (GSem nD τ sig) (Fin 3) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (true, s)) => recvPay m ρ g.1.1 s
    | some (some (false, j)) => sendPay g.1.1 j
    | none => iprop(emp)
  amount_pos g _ _ _ := by
    split
    · exact Nat.one_pos
    · exact N_pos

instance Rd_payload_storable (g : GSem nD τ sig) (r : ℕ) (d : Fin 3) :
    BI.Storable (upEmb : UEmb _ 𝕄) ((Rd (F := F) m ρ).payload g r d) := by
  unfold Rd; dsimp only; split <;> infer_instance

section Sched
variable (c : Dev nD) (s : Fin 3)

theorem duties_bar : (Rd (F := F) m ρ).duties (barCell c) 0 = Finset.univ := by
  unfold Rd; dsimp only; rw [if_pos ⟨rfl, rfl⟩]; rfl
theorem duties_send : (Rd (F := F) m ρ).duties (sendCell c s) 0 = {0} := by
  unfold Rd; dsimp only; rw [if_pos ⟨rfl, rfl⟩, kindOf_send]
theorem duties_recv : (Rd (F := F) m ρ).duties (recvCell c s) 0 = {0} := by
  unfold Rd; dsimp only; rw [if_pos ⟨rfl, rfl⟩, kindOf_recv]
theorem duties_later (g : GSem nD τ sig) : ∀ r, 1 ≤ r → (Rd (F := F) m ρ).duties g r = ∅ :=
  fun r hr => by unfold Rd; dsimp only; rw [if_neg fun h => by omega]

theorem amount_bar (d : Fin 3) : (Rd (F := F) m ρ).amount (barCell c) 0 d = 1 := by unfold Rd; rfl
theorem amount_send (d : Fin 3) : (Rd (F := F) m ρ).amount (sendCell c s) 0 d = N := by unfold Rd; dsimp only; rw [kindOf_send]
theorem amount_recv (d : Fin 3) : (Rd (F := F) m ρ).amount (recvCell c s) 0 d = N := by unfold Rd; dsimp only; rw [kindOf_recv]

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c s) 0 = N := by
  unfold Schedule.expect Schedule.amountOf; rw [duties_send, Finset.sum_singleton, amount_send]
theorem expect_recv : (Rd (F := F) m ρ).expect (recvCell c s) 0 = N := by
  unfold Schedule.expect Schedule.amountOf; rw [duties_recv, Finset.sum_singleton, amount_recv]

theorem payload_bar (d : Fin 3) : (Rd (F := F) m ρ).payload (barCell c) 0 d = barPay c d := by unfold Rd; rfl
theorem payload_send (d : Fin 3) : (Rd (F := F) m ρ).payload (sendCell c s) 0 d = sendPay c s := by
  unfold Rd; dsimp only; rw [kindOf_send]
theorem payload_recv (d : Fin 3) : (Rd (F := F) m ρ).payload (recvCell c s) 0 d = recvPay m ρ c s := by
  unfold Rd; dsimp only; rw [kindOf_recv]

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_fin3, payload_bar, payload_bar, payload_bar]
theorem rest_send : bigSep ((Rd (F := F) m ρ).duties (sendCell c s) 0 \ ∅) (fun d => (Rd (F := F) m ρ).payload (sendCell c s) 0 d) = sendPay c s := by
  rw [Finset.sdiff_empty, duties_send, bigSep_singleton, payload_send]
theorem rest_recv : bigSep ((Rd (F := F) m ρ).duties (recvCell c s) 0 \ ∅) (fun d => (Rd (F := F) m ρ).payload (recvCell c s) 0 d) = recvPay m ρ c s := by
  rw [Finset.sdiff_empty, duties_recv, bigSep_singleton, payload_recv]

end Sched

/-! ## What each device owes at launch, and the order of the waits -/

/-- What the copy into slot `s` of another device still owes. -/
abbrev Rt (c : Dev nD) (s : Fin 3) : CellTallies nD τ sig Unit := tallyAt (recvCell (bk s c) s) () N
/-- What the signal to the writer of slot `s` still owes. -/
abbrev Bt (c : Dev nD) (s : Fin 3) : CellTallies nD τ sig Unit := tallyAt (barCell (fw s c)) () 1
/-- The three copies, the first one last. -/
abbrev OR (c : Dev nD) : CellTallies nD τ sig Unit := Rt c 0 + Rt c 2 + Rt c 1
/-- The three copies and the three signals, the first signal last. -/
abbrev O₀ (c : Dev nD) : CellTallies nD τ sig Unit := OR c + Bt c 2 + Bt c 1 + Bt c 0

def L (g : GSem nD τ sig) : Finset Unit := if g.1.2 = .tc then {()} else ∅
/-- Barrier cells come before receive cells; the staging and send cells before both. -/
def lv (g : GSem nD τ sig) (_ : Unit) : ℕ := match kindOf g.2 with | some none => 1 | some (some (true, _)) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (s : Fin 3) (u : Unit) : lv (recvCell c s) u = 2 := by unfold lv; dsimp only; rw [kindOf_recv]

theorem tally_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

theorem add_pos_or {a b : CellTallies nD τ sig Unit} {g : GSem nD τ sig} {u : Unit} (h : 0 < (a + b) g u) : 0 < a g u ∨ 0 < b g u := by
  rw [Pi.add_apply, Finsupp.add_apply] at h; omega

theorem OR_pos {c : Dev nD} {g : GSem nD τ sig} {u : Unit} (h : 0 < OR c g u) : ∃ d s, g = recvCell d s := by
  rcases add_pos_or h with h | h
  · rcases add_pos_or h with h | h <;> exact ⟨_, _, tally_pos h⟩
  · exact ⟨_, _, tally_pos h⟩

theorem O₀_pos {c : Dev nD} {g : GSem nD τ sig} {u : Unit} (h : 0 < O₀ c g u) : (∃ d s, g = recvCell d s) ∨ ∃ d, g = barCell d := by
  rcases add_pos_or h with h | h
  · rcases add_pos_or h with h | h
    · rcases add_pos_or h with h | h
      · exact .inl (OR_pos h)
      · exact .inr ⟨_, tally_pos h⟩
    · exact .inr ⟨_, tally_pos h⟩
  · exact .inr ⟨_, tally_pos h⟩

omit [FloatOps F] in
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by rw [Finset.mem_singleton.mp hp]; dsimp only [lv]; rw [hq])
      (fun g u hg => by
        rcases O₀_pos hg with ⟨_, _, rfl⟩ | ⟨_, rfl⟩
        · rw [lv_recv]; decide
        · rw [lv_bar]; decide)
  · rw [MayWait_zero]; iintro -; iempintro

omit [FloatOps F] in
/-- At its barrier wait a device owes receive cells only. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨_, _, rfl⟩ := OR_pos hg; exact Finset.mem_singleton_self _)
    (fun p hp => by rw [Finset.mem_singleton.mp hp]; exact le_of_eq (lv_bar c _))
    (fun g u hg => by obtain ⟨_, _, rfl⟩ := OR_pos hg; rw [lv_recv]; decide)

end Cert.KernelIdeal.Exchange
-- ==== Proof.IdealBody.lean ====
/-
# One device's run of the kernel

From what the launch gives a device, through its signals, copies and waits, to its block of the result.
-/
module

public import proofs.«01_k».proof.Proof.IdealProto

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds -/

/-- Every cell's invariant and that every cell has begun: known to all devices. -/
def records (K : Dev nD × CK → ℕ) : sProp 𝕄 :=
  iprop((bigSep Finset.univ fun ck : Dev nD × CK => cellInv ER (Rd m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (Rd m ρ) (K ck) (kcell ck) := by
  unfold records
  exact sep_elim_left.trans (bigSep_elim (Finset.mem_univ ck))
theorem reached_at (K : Dev nD × CK → ℕ) (ck : Dev nD × CK) : records m ρ K ⊢ reached ER (kcell ck) 0 := by
  unfold records
  exact sep_elim_right.trans (bigSep_elim (Finset.mem_univ ck))

/-- A device's places in the rounds of its own cells. -/
def places (c : Dev nD) : sProp 𝕄 := bigSep Finset.univ fun k : CK => atPos ER (kcell (c, k)) 0 ∅ 0

omit [FloatOps F] in
theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

/-- The duties a device pays: a signal to each other device, a copy to each other device, and its own three send cells. -/
def payToks (c : Dev nD) : sProp 𝕄 :=
  iprop((bigSep Finset.univ fun s : Fin 3 => dutyTok ER (barCell (fw s c)) 0 s)
    ∗ (bigSep Finset.univ fun s : Fin 3 => dutyTok ER (recvCell (bk s c) s) 0 0)
    ∗ bigSep Finset.univ fun j : Fin 3 => dutyTok ER (sendCell c j) 0 0)

def ghost (K : Dev nD × CK → ℕ) (c : Dev nD) : sProp 𝕄 := iprop(records m ρ K ∗ places c ∗ payToks c)

/-- The credit a device may wait on: three units at its barrier, one copy at each of its receive slots. -/
def credits (c : Dev nD) : sProp 𝕄 :=
  iprop(cred (tallyAt (barCell c) () 3) ∗ cred (tallyAt (recvCell c 0) () N) ∗ cred (tallyAt (recvCell c 1) () N) ∗ cred (tallyAt (recvCell c 2) () N))

def start (c : Dev nD) : sProp 𝕄 := iprop((∃ K, ghost m ρ K c) ∗ credits c ∗ levAts L lv)

/-- The three scratch buffers, with any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- A device's seven semaphores, all at zero. -/
def zeros (c : Dev nD) : sProp 𝕄 := bigSep Finset.univ fun k : CK => semVal (kcell (c, k)) 0

def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => istg m ρ c
    | ⟨2, _⟩ => wstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Slots -/

theorem hz2 : (![0, 0] : Fin 2 → Nat) = fun _ => 0 := funext fun a => by fin_cases a <;> rfl

theorem slots_disjoint {i j : Fin 3} (h : i ≠ j) : Disjoint (slotR i).set (slotR j).set := by
  rw [Finset.disjoint_left]
  intro x hx hy
  rw [Rect.mem_set_unit] at hx hy
  have h1 := hx (0 : Fin 3)
  have h2 := hy (0 : Fin 3)
  apply h
  apply Fin.ext
  have e1 : (![i.val, 0, 0] : Fin 3 → ℕ) 0 = i.val := rfl
  have e2 : (![j.val, 0, 0] : Fin 3 → ℕ) 0 = j.val := rfl
  have e3 : S1x128x512.size (0 : Fin 3) = 1 := rfl
  rw [e1, e3] at h1; rw [e2, e3] at h2
  omega

theorem slots_cover : (Finset.univ : Finset (Fin 3)).biUnion (fun j => (slotR j).set) = Finset.univ := by
  ext x
  simp only [Finset.mem_biUnion, Finset.mem_univ, true_and, iff_true]
  refine ⟨⟨(x (0 : Fin 3)).val, (x (0 : Fin 3)).isLt⟩, ?_⟩
  rw [Rect.mem_set_unit]
  intro a
  have hx := (x a).isLt
  fin_cases a
  · exact ⟨le_refl _, Nat.lt_succ_self _⟩
  · exact ⟨Nat.zero_le _, hx.trans_eq (Nat.zero_add _).symm⟩
  · exact ⟨Nat.zero_le _, hx.trans_eq (Nat.zero_add _).symm⟩

theorem slots_union : (slotR 0).set ∪ ((slotR 1).set ∪ (slotR 2).set) = Finset.univ := by
  rw [← slots_cover]; ext x; simp [Fin.exists_fin_succ]

theorem slots_apart : Disjoint (slotR 0).set ((slotR 1).set ∪ (slotR 2).set) :=
  Finset.disjoint_union_right.mpr ⟨slots_disjoint (by decide), slots_disjoint (by decide)⟩

omit [FloatOps F] in
/-- Three disjoint parts of a buffer. -/
theorem split3 (ℓ : Loc nD τ sig) (I J K S : Finset (Idx ℓ)) (hS : S = I ∪ (J ∪ K)) (h1 : Disjoint I (J ∪ K)) (h2 : Disjoint J K) (f : Buf (Elt F) ℓ) :
    (ℓ ↦[S]{fullShare} f : sProp 𝕄) ⊢ iprop((ℓ ↦[I]{fullShare} f) ∗ (ℓ ↦[J]{fullShare} f) ∗ (ℓ ↦[K]{fullShare} f)) := by
  subst hS
  exact (pointsTo_union h1).1.trans (sep_mono_right (pointsTo_union h2).1)

omit [FloatOps F] in
theorem join3 (ℓ : Loc nD τ sig) (I J K S : Finset (Idx ℓ)) (hS : S = I ∪ (J ∪ K)) (h1 : Disjoint I (J ∪ K)) (h2 : Disjoint J K) (f g h : Buf (Elt F) ℓ) :
    iprop((ℓ ↦[I]{fullShare} f) ∗ (ℓ ↦[J]{fullShare} g) ∗ (ℓ ↦[K]{fullShare} h)) ⊢ (iprop(∃ k, ℓ ↦[S]{fullShare} k) : sProp 𝕄) := by
  subst hS
  refine ((sep_mono_right (pointsTo_join h2)).trans (pointsTo_join h1)).trans ?_
  iintro H; iexists _; iexact H

omit [FloatOps F] in
/-- A send buffer is its three slots, -/
theorem send_split (c : Dev nD) (f : Buf (Elt F) ((c : Thread nD τ).loc cc0_scratch1)) :
    (((c : Thread nD τ).loc cc0_scratch1) ↦{fullShare} f : sProp 𝕄) ⊢ iprop(sPts c 0 f ∗ sPts c 1 f ∗ sPts c 2 f) := by
  unfold sPts
  rw [sSlot_set, sSlot_set, sSlot_set]
  exact split3 ((c : Thread nD τ).loc cc0_scratch1) _ _ _ _ slots_union.symm slots_apart (slots_disjoint (by decide)) f
omit [FloatOps F] in
theorem send_join (c : Dev nD) (f g h : Buf (Elt F) ((c : Thread nD τ).loc cc0_scratch1)) :
    iprop(sPts c 0 f ∗ sPts c 1 g ∗ sPts c 2 h) ⊢ (iprop(∃ k, ((c : Thread nD τ).loc cc0_scratch1) ↦{fullShare} k) : sProp 𝕄) := by
  unfold sPts
  rw [sSlot_set, sSlot_set, sSlot_set]
  exact join3 ((c : Thread nD τ).loc cc0_scratch1) _ _ _ _ slots_union.symm slots_apart (slots_disjoint (by decide)) f g h
omit [FloatOps F] in
/-- and so is a receive buffer. -/
theorem recv_split (c : Dev nD) (f : Buf (Elt F) ((c : Thread nD τ).loc cc0_scratch2)) :
    (((c : Thread nD τ).loc cc0_scratch2) ↦{fullShare} f : sProp 𝕄) ⊢ iprop(rPts c 0 f ∗ rPts c 1 f ∗ rPts c 2 f) := by
  unfold rPts
  rw [rSlot_set, rSlot_set, rSlot_set]
  exact split3 ((c : Thread nD τ).loc cc0_scratch2) _ _ _ _ slots_union.symm slots_apart (slots_disjoint (by decide)) f
omit [FloatOps F] in
theorem recv_join (c : Dev nD) (f g h : Buf (Elt F) ((c : Thread nD τ).loc cc0_scratch2)) :
    iprop(rPts c 0 f ∗ rPts c 1 g ∗ rPts c 2 h) ⊢ (iprop(∃ k, ((c : Thread nD τ).loc cc0_scratch2) ↦{fullShare} k) : sProp 𝕄) := by
  unfold rPts
  rw [rSlot_set, rSlot_set, rSlot_set]
  exact join3 ((c : Thread nD τ).loc cc0_scratch2) _ _ _ _ slots_union.symm slots_apart (slots_disjoint (by decide)) f g h

/-! ## One rule per effect, at this exchange -/

section Rules

variable (K : Dev nD × CK → ℕ) (c : Dev nD)

/-- A signal to the writer of slot `s`: it hands over slot `s`. -/
theorem wp_tell {α : Type} {Q : α → sProp 𝕄} (s : Fin 3) {n : Dev nD} (hn : n = fw s c) {k : PUnit → Prog (TpuEff nD τ sig (Elt F) Λ₀ .tc) α}
    (f : Buf (Elt F) ((rSlot s).view.loc (c : Thread nD τ))) (O : CellTallies nD τ sig Unit) (W : Waits sig Unit) :
    iprop(records m ρ K ∗ owes (c : Thread nD τ) (O + Bt c s) W ∗ dutyTok ER (barCell (fw s c)) 0 s ∗ rPts c s f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (Dev.tc n : Thread nD τ) barS (1#32 : BitVec 32).toInt) k) Q) := by
  subst hn
  iintro ⟨#HR, HO, Ht, Hr⟩ Hk
  iapply (Rounds.wp_signal 𝒱₀ ER (Rd m ρ) (c : Thread nD τ) none (dst := (fw s c : Thread nD τ)) (κ := K (fw s c, none))
      (d := s) (by rw [duties_bar]; exact Finset.mem_univ _) ((amount_bar m ρ (fw s c) s).trans (by decide)) () O rfl) $$ [HO Ht Hr]
  · isplitr; · iapply (inv_at m ρ K (fw s c, none)); iexact HR
    isplitl [HO]; · iexact HO
    isplitl [Ht]; · iexact Ht
    isplitl [Hr]
    · rw [payload_bar]; unfold barPay; iexists f; rw [bk_fw]; iexact Hr
    iapply (reached_at m ρ K (fw s c, none)); iexact HR
  iexact Hk

/-- Every copy of one block adds the same. -/
theorem credit_eq (M : Memref sig .tc .vmem S128x512 .bf16) : M.view.dmaCredit = N := rfl
theorem rSlot_amount (s : Fin 3) (q : DmaSem sig) : (rSlot s).view.amount (.dma q) = N := rfl

/-- The wait for the three signals: the three slots the device writes come with it. -/
theorem wp_await {α : Type} {Q : α → sProp 𝕄} {k : PUnit → Prog (TpuEff nD τ sig (Elt F) Λ₀ .tc) α} (W : Waits sig Unit) :
    iprop(records m ρ K ∗ levAts L lv ∗ cred (tallyAt (barCell c) () 3) ∗ owes (c : Thread nD τ) (OR c) W ∗ atPos ER (barCell c) 0 ∅ 0)
      ⊢ iprop(((owes (c : Thread nD τ) (OR c) (insert (SemLoc.reg barS, ()) W) ∗ atPos ER (barCell c) 1 ∅ 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32 : BitVec 32).toInt) k) Q) := by
  iintro ⟨#HR, #Hlev, Hc, HO, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := OR c) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

/-- The copy into slot `s` of another device. -/
theorem wp_copy {α : Type} {Q : α → sProp 𝕄} (s : Fin 3) {n : Dev nD} (hn : n = bk s c) {src dst : Memref sig .tc .vmem S128x512 .bf16}
    (hs : src = sSlot (js s)) (hd : dst = rSlot s) {qs qr : DmaSem sig} (hqs : qs = sendS (js s)) (hqr : qr = recvS s)
    {hsc : (dst : Memref sig (Dev.tc n : Thread nD τ).2.kind .vmem S128x512 .bf16).view.ref.isScScratch = false}
    {hsrc : src.view.WordExact} {hdst : dst.view.WordExact}
    {hsem : DmaTarget.Typed .vmem (.dma qr) (.remote (Dev.tc n : Thread nD τ) dst (.dma qs) hsc)}
    {k : PUnit → Prog (TpuEff nD τ sig (Elt F) Λ₀ .tc) α}
    (fs : Buf (Elt F) ((sSlot (js s)).view.loc (c : Thread nD τ)))
    (hfs : sM.view.readAt (Elt F) (slotR (js s)).toLoadRect fs = sendVal m ρ c (js s)) (O O' : CellTallies nD τ sig Unit) (hO : O' = O + Rt c s) (W : Waits sig Unit) :
    iprop(records m ρ K ∗ sPts c (js s) fs ∗ barPay c s ∗ owes (c : Thread nD τ) O' W
        ∗ dutyTok ER (sendCell c (js s)) 0 0 ∗ dutyTok ER (recvCell (bk s c) s) 0 0)
      ⊢ iprop(((cred (tallyAt (sendCell c (js s)) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) k) Q) := by
  subst hn hs hd hqs hqr
  unfold barPay
  iintro ⟨#HR, Hs, ⟨%fn, Hd⟩, HO, HtS, HtR⟩ Hk
  iapply (Rounds.wp_send_pointsTo 𝒱₀ ER (Rd m ρ) (c : Thread nD τ) none (κ₁ := K (c, some (false, js s))) (κ₂ := K (bk s c, some (true, s)))
    (r₁ := 0) (r₂ := 0) (d₁ := 0) (d₂ := 0) (fs := fs) (fd := fn)
    (by rw [duties_send]; exact Finset.mem_singleton_self _) (by rw [duties_recv]; exact Finset.mem_singleton_self _)
    () () N (rSlot_amount s _) (amount_send m ρ c (js s) 0) (amount_recv m ρ (bk s c) s 0) O hO (W := W)
    (by rw [payload_send]; unfold sendPay sPts; iintro H; iexists fs; iexact H)
    (by
      rw [payload_recv]; unfold recvPay rPts; iintro H; iexists _
      isplitr
      · ipureintro; exact (landed_eq s (js s) fn fs).trans (hfs.trans (by rw [recvVal, fw_bk]))
      · iexact H)) $$ [Hs Hd HO HtS HtR]
  · isplitr; · iapply (inv_at m ρ K (c, some (false, js s))); iexact HR
    isplitr; · iapply (inv_at m ρ K (bk s c, some (true, s))); iexact HR
    isplitl [Hs]; · unfold sPts; iexact Hs
    isplitl [Hd]; · unfold rPts; iexact Hd
    isplitl [HO]; · iexact HO
    isplitl [HtS]; · iexact HtS
    isplitr; · iapply (reached_at m ρ K (c, some (false, js s))); iexact HR
    isplitl [HtR]; · iexact HtR
    iapply (reached_at m ρ K (bk s c, some (true, s))); iexact HR
  iexact Hk

/-- The wait for receive slot `s`, and closing its cell. -/
theorem wp_arrive {α : Type} {Q : α → sProp 𝕄} (s : Fin 3) {src dst : Memref sig .tc .vmem S128x512 .bf16} {qr : DmaSem sig} (hqr : qr = recvS s)
    {h1 : src.view.WordExact} {h2 : dst.view.WordExact} {k : PUnit → Prog (TpuEff nD τ sig (Elt F) Λ₀ .tc) α} (W : Waits sig Unit) :
    iprop(records m ρ K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0 ∗ recvPay m ρ c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qr src dst h1 h2) k) Q) := by
  subst hqr
  iintro ⟨#HR, Hc, HO, Hat⟩ Hk
  iapply (Rounds.wp_wait_rest_token 𝒱₀ ER (Rd m ρ) (c : Thread nD τ) none (κ := K (c, some (true, s)))
      (wpE_waitDma2_eq 𝒱₀ (c : Thread nD τ) none Set.univ) (Set.mem_univ _) () (O := 0) (W := W) (R := 0) (m := 0) (T := ∅)
      (by rw [Nat.zero_add, expect_recv, credit_eq])) $$ [Hc HO Hat]
  · isplitr; · iapply (inv_at m ρ K (c, some (true, s))); iexact HR
    isplitl [Hc]; · rw [credit_eq]; iexact Hc
    isplitl [HO]; · iexact HO
    isplitr; · rw [MayWait_zero]; iempintro
    iexact Hat
  iintro ⟨HO, Hat, -, Hpay⟩
  ihave Hp := (Entails.of_eq (rest_recv m ρ c s)) $$ Hpay
  iapply Hk
  isplitl [HO]; · iexact HO
  isplitl [Hat]; · iexact Hat
  iexact Hp

/-- The wait for send slot `j` to be free again. -/
theorem wp_free {α : Type} {Q : α → sProp 𝕄} (j : Fin 3) {src dst : Memref sig .tc .vmem S128x512 .bf16} {qs : DmaSem sig} (hqs : qs = sendS j)
    {h1 : src.view.WordExact} {h2 : dst.view.WordExact} {k : PUnit → Prog (TpuEff nD τ sig (Elt F) Λ₀ .tc) α} (W : Waits sig Unit) :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ sendPay c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 qs src dst h1 h2) k) Q) := by
  subst hqs
  iintro ⟨#HR, Hc, HO, Hat⟩ Hk
  iapply (Rounds.wp_wait_rest_token 𝒱₀ ER (Rd m ρ) (c : Thread nD τ) none (κ := K (c, some (false, j)))
      (wpE_waitDma2_eq 𝒱₀ (c : Thread nD τ) none Set.univ) (Set.mem_univ _) () (O := 0) (W := W) (R := 0) (m := 0) (T := ∅)
      (by rw [Nat.zero_add, expect_send, credit_eq])) $$ [Hc HO Hat]
  · isplitr; · iapply (inv_at m ρ K (c, some (false, j))); iexact HR
    isplitl [Hc]; · rw [credit_eq]; iexact Hc
    isplitl [HO]; · iexact HO
    isplitr; · rw [MayWait_zero]; iempintro
    iexact Hat
  iintro ⟨HO, Hat, -, Hpay⟩
  ihave Hp := (Entails.of_eq (rest_send m ρ c j)) $$ Hpay
  iapply Hk
  isplitl [HO]; · iexact HO
  isplitl [Hat]; · iexact Hat
  iexact Hp

theorem send_access (j : Fin 3) : (sM.access (slotR j)).set ⊆ (sSlot j).view.set := by
  rw [sSlot_set]; exact subset_of_eq (View.set_slice_whole cc0_scratch1 (slotR j))
theorem recv_access (j : Fin 3) : (rM.access (slotR j)).set ⊆ (rSlot j).view.set := by
  rw [rSlot_set]; exact subset_of_eq (View.set_slice_whole cc0_scratch2 (slotR j))

omit [FloatOps F] in
theorem filled_eq (j : Fin 3) (f : (cc0_scratch1 : Ref sig .tc).ty.Contents (Elt F)) (v : S1x128x512.Idx → Elt F .bf16) :
    sM.view.readAt (Elt F) (slotR j).toLoadRect ((sM.access (slotR j)).write (Elt F) f v Finset.univ) = v :=
  View.read_write_univ (Val := Elt F) (v := sM.view.slice (slotR j)) f v

/-- A load of send slot `j`, of which the contents are not used. -/
theorem wp_glance {α : Type} {Q : α → sProp 𝕄} (j : Fin 3) {r : Rect S3x128x512} (hr : r = slotR j)
    {hl : sM.view.LoadsAt r.toLoadRect}
    {k : (r.shape.Idx → Elt F .bf16) → Prog (TpuEff nD τ sig (Elt F) Λ₀ .tc) α} (f : Buf (Elt F) ((sSlot j).view.loc (c : Thread nD τ))) :
    sPts c j f
      ⊢ iprop((∀ x, sPts c j f -∗ wp frame (wpE (defs₀ (F := F)) 𝒱₀ (c : Thread nD τ) none) Set.univ (k x) Q)
          -∗ wp frame (wpE (defs₀ (F := F)) 𝒱₀ (c : Thread nD τ) none) Set.univ (.op (.load sM r.toLoadRect hl) k) Q) := by
  subst hr
  unfold sPts
  iintro H Hk
  iapply (wp_load_rect 𝒱₀ (c : Thread nD τ) none Set.univ (m := sM) (r := slotR j) (send_access j)) $$ H; iintro H
  iapply Hk
  iexact H

/-- Storing a block in send slot `j`. -/
theorem wp_fill {α : Type} {Q : α → sProp 𝕄} (j : Fin 3) {r : Rect S3x128x512} (hr : r = slotR j) {v : r.shape.Idx → Elt F .bf16}
    {hst : (sM.access r).Stores Finset.univ} {hms : (Finset.univ : Finset r.shape.Idx) = Finset.univ ∨ ∀ a, r.stride a = 1}
    {k : PUnit → Prog (TpuEff nD τ sig (Elt F) Λ₀ .tc) α} (f : Buf (Elt F) ((sSlot j).view.loc (c : Thread nD τ))) :
    sPts c j f
      ⊢ iprop(((∃ f', ⌜sM.view.readAt (Elt F) r.toLoadRect f' = v⌝ ∗ sPts c j f')
            -∗ wp frame (wpE (defs₀ (F := F)) 𝒱₀ (c : Thread nD τ) none) Set.univ (k ⟨⟩) Q)
          -∗ wp frame (wpE (defs₀ (F := F)) 𝒱₀ (c : Thread nD τ) none) Set.univ (.op (.store sM r v Finset.univ hst hms) k) Q) := by
  subst hr
  unfold sPts
  iintro H Hk
  iapply (wp_store 𝒱₀ (c : Thread nD τ) none Set.univ (m := sM) (r := slotR j) (Mk := Finset.univ) (send_access j)) $$ H; iintro H
  iapply Hk
  iexists _
  isplitr
  · ipureintro; exact filled_eq j f v
  · iexact H

/-- Reading what arrived in receive slot `s`. -/
theorem wp_take {α : Type} {Q : α → sProp 𝕄} (s : Fin 3) {r : Rect S3x128x512} (hr : r = slotR s)
    {hl : rM.view.LoadsAt r.toLoadRect}
    {k : (r.shape.Idx → Elt F .bf16) → Prog (TpuEff nD τ sig (Elt F) Λ₀ .tc) α} :
    recvPay m ρ c s
      ⊢ iprop((∀ x, iprop(⌜HEq x (recvVal m ρ c s)⌝) -∗ recvPay m ρ c s -∗ wp frame (wpE (defs₀ (F := F)) 𝒱₀ (c : Thread nD τ) none) Set.univ (k x) Q)
          -∗ wp frame (wpE (defs₀ (F := F)) 𝒱₀ (c : Thread nD τ) none) Set.univ (.op (.load rM r.toLoadRect hl) k) Q) := by
  subst hr
  unfold recvPay rPts
  iintro ⟨%f, %hf, H⟩ Hk
  iapply (wp_load_rect 𝒱₀ (c : Thread nD τ) none Set.univ (m := rM) (r := slotR s) (recv_access s)) $$ H; iintro H
  iapply Hk $$ []
  · ipureintro; exact heq_of_eq hf
  · iexists f
    isplitr; · ipureintro; exact hf
    iexact H

end Rules

end Cert.KernelIdeal.Exchange
-- ==== Proof.IdealRun.lean ====
/-
# One device's run of the kernel, effect by effect
-/
module

public import proofs.«01_k».proof.Proof.IdealBody

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem read_idx (f : (cc0_stg1_0 : Ref sig .tc).ty.Contents (Elt F)) : iM.view.readAt (Elt F) iR.toLoadRect f = f :=
  Memref.readAt_unit_zero (Elt F) cc0_stg1_0 hz2 _ f
omit [FloatOps F] in
theorem write_keep (f w : (cc0_scratch0 : Ref sig .tc).ty.Contents (Elt F)) :
    (kM.access kR : View sig .tc _ _ _).write (Elt F) f w Finset.univ = w :=
  Memref.write_access_unit_zero_univ (Elt F) cc0_scratch0 hz2 _ f w
omit [FloatOps F] in
theorem write_out (f w : (cc0_stg3_0 : Ref sig .tc).ty.Contents (Elt F)) :
    (oM.access oR : View sig .tc _ _ _).write (Elt F) f w Finset.univ = w :=
  Memref.write_access_unit_zero_univ (Elt F) cc0_stg3_0 hz2 _ f w

/-- A cell whose round is over closes: its semaphore is the device's again, at zero. -/
theorem close_cell (K : Dev nD × CK → ℕ) (c : Dev nD) (k : CK) :
    iprop(records m ρ K ∗ atPos ER (kcell (c, k)) 1 ∅ 0) ⊢ (|={Set.univ}=> semVal (kcell (c, k)) 0 : sProp 𝕄) := by
  iintro ⟨#HR, Hat⟩
  iapply (Rounds.cell_close ER (Rd m ρ) (Set.mem_univ (K (c, k))) (fun h => h) (R := 0 + 1) (duties_later m ρ (kcell (c, k)))) $$ [Hat]
  isplitr; · iapply (inv_at m ρ K (c, k)); iexact HR
  iexact Hat

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((ghost m ρ K c ∗ credits c ∗ levAts L lv ∗ scratch c)
    ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (istg m ρ c) ∗ stg c cc0_stg2_0 (wstg m ρ c) ∗ stg c cc0_stg3_0 (outAt m ρ c))

set_option maxHeartbeats 4000000 in
set_option maxRecDepth 8000 in
/-- The body, one rule per effect in program order. -/
theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Kt := by
  simp only [cc0_body_eq_skeleton, k0_part1_eq_skeleton, k0_part2_eq_skeleton, k0_part3_eq_skeleton, k0_part4_eq_skeleton,
    k0_part5_eq_skeleton, k0_part6_eq_skeleton, k0_part7_eq_skeleton, k0_part8_eq_skeleton]
  unfold cc0_body_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold bodyPre ghost credits scratch payToks
  iintro ⟨⟨⟨⟨#HR, Hplaces, HtB, HtR, HtS⟩, ⟨HcB, HcR0, HcR1, HcR2⟩, #Hlev, ⟨%fk, Hkeep⟩, ⟨%fs, Hsend⟩, ⟨%fr, Hrecv⟩⟩,
    Ho, ⟨%d0, %g0, %hg0, Hx⟩, ⟨%d1, %g1, %hg1, Hi⟩, ⟨%d2, %g2, %hg2, Hw⟩, ⟨%d3, %g3, %hg3, Hout⟩⟩, Hk⟩
  have hx : g0 = xstg m ρ c := by rw [hg0]; unfold Dat.before; rw [if_pos (fetch0_0 t0_0)]; rfl
  subst hx
  have hi : g1 = istg m ρ c := by rw [hg1]; unfold Dat.before; rw [if_pos (fetch0_1 t0_0)]; rfl
  subst hi
  have hw : g2 = wstg m ρ c := by rw [hg2]; unfold Dat.before; rw [if_pos (fetch0_2 t0_0)]; rfl
  subst hw
  unfold Dat.owesAt Pipeline.owesWithin
  icases Ho with ⟨%W, %hW, HO⟩
  rw [show (dats m ρ 0 c).owed t0_0.castSucc = O₀ c from rfl]
  unfold places
  ihave Hplaces := (Entails.of_eq (bigSep_CK _)) $$ Hplaces
  icases Hplaces with ⟨HaB, HaS0, HaS1, HaS2, HaR0, HaR1, HaR2⟩
  ihave HtB := (Entails.of_eq (bigSep_fin3 _)) $$ HtB
  icases HtB with ⟨HtB0, HtB1, HtB2⟩
  ihave HtR := (Entails.of_eq (bigSep_fin3 _)) $$ HtR
  icases HtR with ⟨HtR0, HtR1, HtR2⟩
  ihave HtS := (Entails.of_eq (bigSep_fin3 _)) $$ HtS
  icases HtS with ⟨HtS0, HtS1, HtS2⟩
  ihave Hrecv := (recv_split c fr) $$ Hrecv
  icases Hrecv with ⟨Hr0, Hr1, Hr2⟩
  ihave Hsend := (send_split c fs) $$ Hsend
  icases Hsend with ⟨Hs0, Hs1, Hs2⟩
  -- the three signals
  iapply (wp_tell m ρ K c 0 (dev1_eq c) fr (OR c + Bt c 2 + Bt c 1) W) $$ [HO HtB0 Hr0]
  · isplitr; · iexact HR
    isplitl [HO]; · iexact HO
    isplitl [HtB0] <;> iassumption
  iintro HO
  iapply (wp_tell m ρ K c 1 (dev2_eq c) fr (OR c + Bt c 2) W) $$ [HO HtB1 Hr1]
  · isplitr; · iexact HR
    isplitl [HO]; · iexact HO
    isplitl [HtB1] <;> iassumption
  iintro HO
  iapply (wp_tell m ρ K c 2 (dev3_eq c) fr (OR c) W) $$ [HO HtB2 Hr2]
  · isplitr; · iexact HR
    isplitl [HO]; · iexact HO
    isplitl [HtB2] <;> iassumption
  iintro HO
  -- the wait for the three others
  iapply (wp_await m ρ K c W) $$ [HO HcB HaB]
  · isplitr; · iexact HR
    isplitr; · iexact Hlev
    isplitl [HcB]; · iexact HcB
    isplitl [HO] <;> iassumption
  iintro ⟨HO, HaB, Hb0, Hb1, Hb2⟩
  -- which tokens are kept
  iapply (wp_load 𝒱₀ (c : Thread nD τ) none Set.univ (m := iM) (Finset.subset_univ _)) $$ Hi; iintro Hi
  iapply (wp_load 𝒱₀ (c : Thread nD τ) none Set.univ (m := kM) (Finset.subset_univ _)) $$ Hkeep; iintro Hkeep
  iapply (wp_store 𝒱₀ (c : Thread nD τ) none Set.univ (m := kM) (r := kR) (Mk := Finset.univ) (Finset.subset_univ _)) $$ Hkeep; iintro Hkeep
  rw [write_keep]
  rw [show k0_pay1 (F := F) (devWord c) (iM.view.readAt (Elt F) iR.toLoadRect (istg m ρ c)) = keepAt m ρ c from rfl]
  -- the block for the device two further
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_glance c 0 rfl fs) $$ Hs0; iintro %z0 Hs0
  iapply (wp_fill c 0 rfl fs) $$ Hs0; iintro ⟨%f0, %hf0, Hs0⟩
  iapply (wp_copy m ρ K c 1 (dev4_eq c) rfl rfl rfl rfl f0 hf0 (Rt c 0 + Rt c 2) _ (rfl) _) $$ [HO Hs0 Hb1 HtS0 HtR1]
  · isplitr; · iexact HR
    isplitl [Hs0]; · iexact Hs0
    isplitl [Hb1]; · iexact Hb1
    isplitl [HO]; · iexact HO
    isplitl [HtS0]; · iexact HtS0
    iexact HtR1
  iintro ⟨HcS0, HO⟩
  -- the block for the next device
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_glance c 1 rfl fs) $$ Hs1; iintro %z1 Hs1
  iapply (wp_fill c 1 rfl fs) $$ Hs1; iintro ⟨%f1, %hf1, Hs1⟩
  iapply (wp_copy m ρ K c 2 (dev5_eq c) rfl rfl rfl rfl f1 hf1 (Rt c 0) _ (rfl) _) $$ [HO Hs1 Hb2 HtS1 HtR2]
  · isplitr; · iexact HR
    isplitl [Hs1]; · iexact Hs1
    isplitl [Hb2]; · iexact Hb2
    isplitl [HO]; · iexact HO
    isplitl [HtS1]; · iexact HtS1
    iexact HtR2
  iintro ⟨HcS1, HO⟩
  -- the block for the device before
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_glance c 2 rfl fs) $$ Hs2; iintro %z2 Hs2
  iapply (wp_fill c 2 rfl fs) $$ Hs2; iintro ⟨%f2, %hf2, Hs2⟩
  iapply (wp_copy m ρ K c 0 (dev6_eq c) rfl rfl rfl rfl f2 hf2 (0) _ (zero_add _ |>.symm) _) $$ [HO Hs2 Hb0 HtS2 HtR0]
  · isplitr; · iexact HR
    isplitl [Hs2]; · iexact Hs2
    isplitl [Hb0]; · iexact Hb0
    isplitl [HO]; · iexact HO
    isplitl [HtS2]; · iexact HtS2
    iexact HtR0
  iintro ⟨HcS2, HO⟩
  -- its own part, and the three parts that arrive
  iapply (wp_load 𝒱₀ (c : Thread nD τ) none Set.univ (m := xM) (Finset.subset_univ _)) $$ Hx; iintro Hx
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_load 𝒱₀ (c : Thread nD τ) none Set.univ (m := kM) (Finset.subset_univ _)) $$ Hkeep; iintro Hkeep
  iapply (wp_load 𝒱₀ (c : Thread nD τ) none Set.univ (m := wM) (Finset.subset_univ _)) $$ Hw; iintro Hw
  iapply (wp_arrive m ρ K c 1 rfl _) $$ [HO HcR1 HaR1]
  · isplitr; · iexact HR
    isplitl [HcR1]; · iexact HcR1
    isplitl [HO]; · iexact HO
    iexact HaR1
  iintro ⟨HO, HaR1, Hr1⟩
  iapply (wp_arrive m ρ K c 2 rfl _) $$ [HO HcR2 HaR2]
  · isplitr; · iexact HR
    isplitl [HcR2]; · iexact HcR2
    isplitl [HO]; · iexact HO
    iexact HaR2
  iintro ⟨HO, HaR2, Hr2⟩
  iapply (wp_arrive m ρ K c 0 rfl _) $$ [HO HcR0 HaR0]
  · isplitr; · iexact HR
    isplitl [HcR0]; · iexact HcR0
    isplitl [HO]; · iexact HO
    iexact HaR0
  iintro ⟨HO, HaR0, Hr0⟩
  iapply (wp_take m ρ c 0 rfl) $$ Hr0; iintro %y0 %hy0 Hr0
  have hy0 := eq_of_heq hy0
  subst hy0
  iapply (wp_take m ρ c 1 rfl) $$ Hr1; iintro %y1 %hy1 Hr1
  have hy1 := eq_of_heq hy1
  subst hy1
  iapply (wp_take m ρ c 2 rfl) $$ Hr2; iintro %y2 %hy2 Hr2
  have hy2 := eq_of_heq hy2
  subst hy2
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_out]
  -- the send slots are free again
  iapply (wp_free m ρ K c 0 rfl _) $$ [HO HcS0 HaS0]
  · isplitr; · iexact HR
    isplitl [HcS0]; · iexact HcS0
    isplitl [HO]; · iexact HO
    iexact HaS0
  iintro ⟨HO, HaS0, Hs0⟩
  iapply (wp_free m ρ K c 1 rfl _) $$ [HO HcS1 HaS1]
  · isplitr; · iexact HR
    isplitl [HcS1]; · iexact HcS1
    isplitl [HO]; · iexact HO
    iexact HaS1
  iintro ⟨HO, HaS1, Hs1⟩
  iapply (wp_free m ρ K c 2 rfl _) $$ [HO HcS2 HaS2]
  · isplitr; · iexact HR
    isplitl [HcS2]; · iexact HcS2
    isplitl [HO]; · iexact HO
    iexact HaS2
  iintro ⟨HO, HaS2, Hs2⟩
  rw [wp_ret]
  -- the cells close
  imod (close_cell m ρ K c (none)) $$ [HaB] with HaB
  · isplitr; · iexact HR
    iexact HaB
  imod (close_cell m ρ K c (some (false, 0))) $$ [HaS0] with HaS0
  · isplitr; · iexact HR
    iexact HaS0
  imod (close_cell m ρ K c (some (false, 1))) $$ [HaS1] with HaS1
  · isplitr; · iexact HR
    iexact HaS1
  imod (close_cell m ρ K c (some (false, 2))) $$ [HaS2] with HaS2
  · isplitr; · iexact HR
    iexact HaS2
  imod (close_cell m ρ K c (some (true, 0))) $$ [HaR0] with HaR0
  · isplitr; · iexact HR
    iexact HaR0
  imod (close_cell m ρ K c (some (true, 1))) $$ [HaR1] with HaR1
  · isplitr; · iexact HR
    iexact HaR1
  imod (close_cell m ρ K c (some (true, 2))) $$ [HaR2] with HaR2
  · isplitr; · iexact HR
    iexact HaR2
  imodintro
  iapply Hk
  unfold bodyPost Φ₁ scratch zeros Dat.owesAt Pipeline.owesWithin
  rw [show (dats m ρ 0 c).owed t0_0.succ = 0 from rfl, bigSep_CK]
  unfold recvPay sendPay
  icases Hr0 with ⟨%e0, -, Hr0⟩
  icases Hr1 with ⟨%e1, -, Hr1⟩
  icases Hr2 with ⟨%e2, -, Hr2⟩
  icases Hs0 with ⟨%l0, Hs0⟩
  icases Hs1 with ⟨%l1, Hs1⟩
  icases Hs2 with ⟨%l2, Hs2⟩
  isplitl [Hkeep Hr0 Hr1 Hr2 Hs0 Hs1 Hs2 HaB HaS0 HaS1 HaS2 HaR0 HaR1 HaR2]
  · isplitl [Hkeep Hr0 Hr1 Hr2 Hs0 Hs1 Hs2]
    · isplitl [Hkeep]; · iexists _; iexact Hkeep
      isplitl [Hs0 Hs1 Hs2]
      · iapply (send_join c l0 l1 l2)
        isplitl [Hs0]; · iexact Hs0
        isplitl [Hs1] <;> iassumption
      · iapply (recv_join c e0 e1 e2)
        isplitl [Hr0]; · iexact Hr0
        isplitl [Hr1] <;> iassumption
    · isplitl [HaB]; · iexact HaB
      isplitl [HaS0]; · iexact HaS0
      isplitl [HaS1]; · iexact HaS1
      isplitl [HaS2]; · iexact HaS2
      isplitl [HaR0]; · iexact HaR0
      isplitl [HaR1] <;> iassumption
  isplitl [HO]
  · iexists (insert (SemLoc.dma (sendS 2), ()) (insert (SemLoc.dma (sendS 1), ()) (insert (SemLoc.dma (sendS 0), ())
      (insert (SemLoc.dma (recvS 0), ()) (insert (SemLoc.dma (recvS 2), ()) (insert (SemLoc.dma (recvS 1), ()) (insert (SemLoc.reg barS, ()) W)))))))
    isplitr; · ipureintro; exact fun _ _ => Or.inl trivial
    iexact HO
  isplitl [Hx]; · iexists _; isplitr; · (ipureintro; rfl)
                  iexact Hx
  isplitl [Hi]; · iexists _; isplitr; · (ipureintro; rfl)
                  iexact Hi
  isplitl [Hw]; · iexists _; isplitr; · (ipureintro; rfl)
                  iexact Hw
  iexists _; isplitr; · (ipureintro; rfl)
  iexact Hout

def bodyPre' (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

set_option maxRecDepth 4000 in
/-- What the staging needs of the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m ρ c)
  unfold bodyPre' Φ₀ start
  iintro ⟨⟨⟨⟨%K, Hg⟩, Hc, Hl⟩, Hscr⟩, Ho, Hin⟩
  iapply (sound_body m ρ K c fun _ => bodyPost m ρ c)
  unfold bodyPre
  isplitr []
  · isplitl [Hg Hc Hl Hscr]
    · isplitl [Hg]; · iexact Hg
      isplitl [Hc]; · iexact Hc
      isplitl [Hl]; · iexact Hl
      iexact Hscr
    isplitl [Ho]; · iexact Ho
    iexact Hin
  · iintro H; iexact H

end Cert.KernelIdeal.Exchange
-- ==== Proof.IdealLaunch.lean ====
/-
# The launch

The ghost state of all four devices is made at once, the duties dealt to the devices that pay them, and the run of
`main` follows: it ends, every array holds what was computed, the arguments are unchanged, every semaphore is at zero.
-/
module

public import proofs.«01_k».proof.Proof.IdealRun
public import Idealize.ShloMosaic.Lib.Pipeline.CollectiveSegs
public import Idealize.ShloMosaic.Lib.Pipeline.ValueKit.Geometry

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Cells and tokens -/

theorem csem_injective : Function.Injective (csem : CK → SemLoc sig) := fun k k' h =>
  Option.some.inj ((kindOf_csem k).symm.trans ((congrArg kindOf h).trans (kindOf_csem k')))

theorem kcell_injective : Function.Injective (kcell : Dev nD × CK → GSem nD τ sig) := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩

/-- The tokens of a device's cells: its barrier's three, its send cells', its receive cells'. -/
def tokOf (x : Dev nD × (Fin 3 × Fin 3)) : GSem nD τ sig × ℕ × Fin 3 := match x.2.1 with
  | 0 => (barCell x.1, 0, x.2.2) | 1 => (sendCell x.1 x.2.2, 0, 0) | 2 => (recvCell x.1 x.2.2, 0, 0)

theorem tokOf_injective : Function.Injective tokOf := by
  rintro ⟨c, a, s⟩ ⟨c', a', s'⟩ h
  have h1 : c = c' := by
    have := congrArg (fun x : GSem nD τ sig × ℕ × Fin 3 => x.1.1.1) h
    revert this; unfold tokOf
    fin_cases a <;> fin_cases a' <;> exact id
  have h2 : (a, s) = (a', s') := by
    have := congrArg (fun x : GSem nD τ sig × ℕ × Fin 3 => (kindOf x.1.2, x.2.2)) h
    subst h1
    revert this; clear h; unfold tokOf
    revert c a s a' s'; decide +kernel
  rw [h1, h2]

def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

def toks (c : Dev nD) : sProp 𝕄 :=
  iprop((bigSep Finset.univ fun s : Fin 3 => dutyTok ER (barCell c) 0 s)
    ∗ (bigSep Finset.univ fun j : Fin 3 => dutyTok ER (sendCell c j) 0 0)
    ∗ bigSep Finset.univ fun s : Fin 3 => dutyTok ER (recvCell c s) 0 0)

/-- What the launch gives device `c`; -/
def G (c : Dev nD) : sProp 𝕄 :=
  iprop((bigSep Finset.univ fun k : CK => roundState ER (Rd m ρ) (kcell (c, k)) 0)
    ∗ (bigSep Finset.univ fun k : CK => iprop(atPos ER (kcell (c, k)) 0 ∅ 0 ∗ reached ER (kcell (c, k)) 0)) ∗ toks c)
/-- and what all devices together make of it. -/
def G' (c : Dev nD) : sProp 𝕄 := iprop(∃ K, ghost m ρ K c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_prod, bigSep_fin3]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  rw [Pipeline.ownSems0_eq_of_list c osem [(false, 0), (false, 1), (false, 2), (true, 0), (true, 1), (true, 2)] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [ownSems0_eq, unscopedSems0_eq]; unfold zeros; rw [bigSep_CK]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun k : CK => semVal (kcell (c, k)) 0) ∗ bigSep Finset.univ fun k : CK => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties -/

omit [FloatOps F] in
/-- What every device holds once for each other device may be dealt to the others. -/
theorem deal (e : Fin 3 → (Dev nD ≃ Dev nD)) (Φ : Fin 3 → Dev nD → sProp 𝕄) :
    (bigSep Finset.univ fun c : Dev nD => bigSep Finset.univ fun s : Fin 3 => Φ s c)
      = bigSep Finset.univ fun c : Dev nD => bigSep Finset.univ fun s : Fin 3 => Φ s (e s c) := by
  simp only [bigSep_fin3, bigSep_sep']
  rw [bigSep_univ_equiv (e 0) (Φ 0), bigSep_univ_equiv (e 1) (Φ 1), bigSep_univ_equiv (e 2) (Φ 2)]

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal around (fun s c => (dutyTok ER (barCell c) 0 s : sProp 𝕄)),
    deal (fun s => (around s).symm) (fun s c => (dutyTok ER (recvCell c s) 0 0 : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CK → ℕ) (c : Dev nD) : iprop(records m ρ K ∗ places c ∗ payToks c) ⊢ G' m ρ c := by
  unfold G' ghost
  iintro H
  iexists K
  iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (Rd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · rw [bigSep_sep']
    isplitl [Hat]; · unfold places; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_ne_recv (a b : Dev nD) (s : Fin 3) : barCell a ≠ recvCell b s := fun h => by
  have := congrArg (fun g : GSem nD τ sig => g.2) h; cases this

theorem tally_bar (a c : Dev nD) : (tallyAt (barCell a) () 1 : CellTallies nD τ sig Unit) (barCell c) () = if c = a then 1 else 0 := by
  rw [tallyAt_apply]
  refine if_congr ⟨fun h => ?_, fun h => ⟨by rw [h], rfl⟩⟩ rfl rfl
  exact congrArg (fun g : GSem nD τ sig => g.1.1) h.1
theorem tally_recv (a c : Dev nD) (s t : Fin 3) : (tallyAt (recvCell a s) () N : CellTallies nD τ sig Unit) (recvCell c t) () = N * if c = a ∧ t = s then 1 else 0 := by
  rw [tallyAt_apply, mul_ite, Nat.mul_one, Nat.mul_zero]
  refine if_congr ⟨fun h => ⟨congrArg (fun g : GSem nD τ sig => g.1.1) h.1, ?_⟩, fun h => ⟨by rw [h.1, h.2], rfl⟩⟩ rfl rfl
  have := congrArg (fun g : GSem nD τ sig => kindOf g.2) h.1
  dsimp only at this
  rw [kindOf_recv, kindOf_recv] at this
  injection this with this; injection this with this; injection this
theorem tally_recv_bar (a c : Dev nD) (s : Fin 3) : (tallyAt (recvCell a s) () N : CellTallies nD τ sig Unit) (barCell c) () = 0 := by
  rw [tallyAt_apply, if_neg fun h => bar_ne_recv _ _ _ h.1]
theorem tally_bar_recv (a c : Dev nD) (t : Fin 3) : (tallyAt (barCell a) () 1 : CellTallies nD τ sig Unit) (recvCell c t) () = 0 := by
  rw [tallyAt_apply, if_neg fun h => bar_ne_recv _ _ _ h.1.symm]

theorem owed_bar (d c : Dev nD) : O₀ d (barCell c) () = (if c = fw 2 d then 1 else 0) + (if c = fw 1 d then 1 else 0) + (if c = fw 0 d then 1 else 0) := by

  simp only [Pi.add_apply, Finsupp.add_apply, tally_bar]
  rw [tally_recv_bar, tally_recv_bar, tally_recv_bar, Nat.zero_add]
theorem owed_recv (d c : Dev nD) (t : Fin 3) : O₀ d (recvCell c t) ()
    = N * ((if c = bk 0 d ∧ t = 0 then 1 else 0) + (if c = bk 2 d ∧ t = 2 then 1 else 0) + (if c = bk 1 d ∧ t = 1 then 1 else 0)) := by

  simp only [Pi.add_apply, Finsupp.add_apply, tally_bar_recv, Nat.add_zero, Nat.mul_add]
  rw [tally_recv, tally_recv, tally_recv]

theorem count_bar (c : Dev nD) : (∑ d : Dev nD, ((if c = fw 2 d then 1 else 0) + (if c = fw 1 d then 1 else 0) + (if c = fw 0 d then 1 else 0))) = 3 := by
  revert c; decide
theorem count_recv (c : Dev nD) (t : Fin 3) : (∑ d : Dev nD,
    ((if c = bk 0 d ∧ t = 0 then 1 else 0) + (if c = bk 2 d ∧ t = 2 then 1 else 0) + (if c = bk 1 d ∧ t = 1 then 1 else 0))) = 1 := by
  revert c t; decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_recv (c : Dev nD) (t : Fin 3) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, ← Finset.mul_sum, count_recv, Nat.mul_one]

/-- The four cells a device has credit for. -/
abbrev paid : List (SemLoc sig) := [.reg barS, .dma (recvS 0), .dma (recvS 1), .dma (recvS 2)]

omit [FloatOps F] in
theorem creds (c : Dev nD) : (Pipeline.launchCred O₀ c : sProp 𝕄) ⊢ credits c := by
  unfold Pipeline.launchCred credits
  rw [← launch_bar, ← launch_recv, ← launch_recv, ← launch_recv]
  refine (bigSep_subset (Finset.subset_univ paid.toFinset)).trans ?_
  rw [bigSep_eq_bigSepL_of_eq paid rfl (by decide)]
  refine Entails.of_eq (PROP := sProp 𝕄) ?_
  rfl

/-! ## What the launch theorem asks -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ (((c : Thread nD τ).loc main_arg1) ↦{fullShare} m ((c : Thread nD τ).loc main_arg1))) := by
  rw [Pipeline.unscopedRestP_none, unscopedRest0_eq]
  iintro ⟨Hr, Hlev, Hcr, -, HG⟩
  ihave Hc := (creds (F := F) c) $$ Hcr
  imodintro
  unfold start G'
  isplitr [Hr]
  · isplitl [HG]; · iexact HG
    isplitl [Hc]; · iexact Hc
    iexact Hlev
  · iexact Hr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [zeros_eq]
  iintro ⟨Hr, Hu, Ho⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- What the end of a run says. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- Every fair run of the four devices ends, with every array at what was computed, `router_W` unchanged and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c)
    (Z := fun c => iprop(((c : Thread nD τ).loc main_arg1) ↦{fullShare} m ((c : Thread nD τ).loc main_arg1)))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      have h := pointsTo_read_all (nD := nD) (τ := τ) (sig := sig) (Ix := Unit) (Val := Elt F) (Name := ℕ) (U := UU) (Lvl := ℕ)
        ({main_arg1} : Finset (Ref sig .tc)) (fun b => (c : Thread nD τ).loc b) (fun b => m ((c : Thread nD τ).loc b)) s'
      rw [bigSep_singleton] at h
      iintro ⟨Hu, Hz, HSI⟩
      ihave H := h $$ [Hz HSI]
      · isplitl [Hz] <;> iassumption
      icases H with ⟨%hz, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hz main_arg1 (Finset.mem_singleton_self _), hs⟩
      · iexact HSI)
    (hQ := fun _ h hs => ⟨fun c => ⟨fun w => (h c).1 w, (h c).2.2.1⟩, sem_eq_zero hs fun c => (h c).2.2.2⟩)

/-- The result array is written once, whole, by what the body left in its staging buffer. -/
theorem finalA_out (c : Dev nD) : finalA m ρ c (3 : Fin 4) = outAt m ρ c :=
  (dats (F := F) m ρ 0 c).arrAt_eq_of_after_last (3 : Fin 4) t0_0 (by decide +kernel : win0_3.WholeAt (t0_0 : Fin grid0.N)) _ fun _ => rfl
theorem finalA_x (c : Dev nD) : finalA m ρ c (0 : Fin 4) = m ((c : Thread nD τ).loc main_arg0) :=
  (dats (F := F) m ρ 0 c).arrAt_in (0 : Fin 4) rfl _
theorem finalA_idx (c : Dev nD) : finalA m ρ c (1 : Fin 4) = m ((c : Thread nD τ).loc main_arg2) :=
  (dats (F := F) m ρ 0 c).arrAt_in (1 : Fin 4) rfl _
theorem finalA_w (c : Dev nD) : finalA m ρ c (2 : Fin 4) = m ((c : Thread nD τ).loc main_arg3) :=
  (dats (F := F) m ρ 0 c).arrAt_in (2 : Fin 4) rfl _

/-- The run: the arguments end as they were. -/
theorem kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (0 : Fin 4)).trans (finalA_x m ρ c), (h c).2, ((h c).1 (1 : Fin 4)).trans (finalA_idx m ρ c),
    ((h c).1 (2 : Fin 4)).trans (finalA_w m ρ c)⟩

/-- The run: device `c`'s result array ends at `outAt`. -/
theorem result {r : PUnit × MemSt nD τ sig (Elt F)} (h : QC m ρ r) (c : Dev nD) :
    r.2.mem ((c : Thread nD τ).loc main_v1) = outAt m ρ c :=
  ((h c).1 (3 : Fin 4)).trans (finalA_out m ρ c)

end Cert.KernelIdeal.Exchange
-- ==== Proof.Routed.lean ====
/-
# What the kernel computes, as plain mathematics

Token `t` names an expert `r t`. It is served if at most 51 of the tokens up to and including `t` name the same expert;
its row of the result is then its row of `x` times the expert's matrix, else zero.
-/
module

public import Idealize.ShloMosaic.PureOps.Ideal
public import Idealize.ShloMosaic.Lib.IdealHost
public import Idealize.ShloMosaic.Lib.WordCmp

@[expose] public section

noncomputable section

namespace Cert.Routed

open Idealize.ShloMosaic

/-- How many tokens up to and including `t` name `E`. -/
def upTo (r : Fin 512 → BitVec 32) (E : BitVec 32) (t : Fin 512) : ℕ :=
  (Finset.univ.filter fun i : Fin 512 => i ≤ t ∧ r i = E).card

/-- Token `t` is served by `E`. -/
def Served (r : Fin 512 → BitVec 32) (E : BitVec 32) (t : Fin 512) : Prop := r t = E ∧ upTo r E t ≤ 51

instance (r : Fin 512 → BitVec 32) (E : BitVec 32) (t : Fin 512) : Decidable (Served r E t) := by unfold Served; infer_instance

/-- A token's row times one expert's matrix, at column `h`. -/
def through (x : Fin 512 → Fin 256 → EReal) (w : Fin 8 → Fin 256 → Fin 512 → EReal) (E : Fin 8) (t h : Fin 512) : EReal :=
  ∑ k, x t k * w E k h

/-- The result: the sum over the experts of what each gives the tokens it serves. -/
def routed (x : Fin 512 → Fin 256 → EReal) (r : Fin 512 → BitVec 32) (w : Fin 8 → Fin 256 → Fin 512 → EReal) (t h : Fin 512) : EReal :=
  ∑ E : Fin 8, if Served r (BitVec.ofNat 32 E.val) t then through x w E t h else 0

theorem word_inj {E E' : Fin 8} (h : BitVec.ofNat 32 E.val = BitVec.ofNat 32 E'.val) : E = E' := by
  revert E E'; decide

/-- A served token has one expert. -/
theorem routed_served {x : Fin 512 → Fin 256 → EReal} {r : Fin 512 → BitVec 32} {w : Fin 8 → Fin 256 → Fin 512 → EReal}
    {t h : Fin 512} {E : Fin 8} (hE : Served r (BitVec.ofNat 32 E.val) t) : routed x r w t h = through x w E t h := by
  unfold routed
  rw [Finset.sum_eq_single E, if_pos hE]
  · intro E' _ hne
    exact if_neg fun h' => hne (word_inj (h'.1.symm.trans hE.1))
  · exact fun h' => absurd (Finset.mem_univ E) h'

/-- A token that no expert serves gives zero. -/
theorem routed_dropped {x : Fin 512 → Fin 256 → EReal} {r : Fin 512 → BitVec 32} {w : Fin 8 → Fin 256 → Fin 512 → EReal}
    {t h : Fin 512} (hn : ∀ E : Fin 8, ¬Served r (BitVec.ofNat 32 E.val) t) : routed x r w t h = 0 :=
  Finset.sum_eq_zero fun E _ => if_neg (hn E)

/-- A row scaled by a token's 0/1 mark before it goes through a matrix. -/
theorem through_marked (p : Prop) [Decidable p] (a b : Fin 256 → EReal) :
    (∑ k, a k * (if p then 1 else 0) * b k) = if p then ∑ k, a k * b k else 0 := by
  split
  · exact Finset.sum_congr rfl fun k _ => by rw [mul_one]
  · exact Finset.sum_eq_zero fun k _ => by rw [mul_zero, zero_mul]

/-! ## Counting in floats and in words -/

theorem mark_of_bit (b : Bool) : (FloatOps.sitofp (F := Ideal) .f32 (BitVec.setWidth 32 (BitVec.ofBool b)) : EReal) = if b then 1 else 0 := by
  cases b
  · show (((0 : ℤ) : ℝ) : EReal) = 0
    norm_num
  · show (((1 : ℤ) : ℝ) : EReal) = 1
    norm_num

theorem fifty_one : Ideal.ofBits .f32 0x424C0000#32 = ((51 : ℝ) : EReal) := by
  simp [Ideal.ofBits, Ideal.ieee, -EReal.coe_mul]; norm_num

theorem natCast_le_fifty_one (n : ℕ) : ((n : EReal) ≤ Ideal.ofBits .f32 0x424C0000#32) ↔ n ≤ 51 := by
  rw [fifty_one, ← EReal.coe_natCast, EReal.coe_le_coe_iff]
  exact_mod_cast Iff.rfl

/-- A count as a float sum of products of marks. -/
theorem upTo_eq_sum (r : Fin 512 → BitVec 32) (E : BitVec 32) (t : Fin 512) :
    (∑ i : Fin 512, (FloatOps.sitofp (F := Ideal) .f32 (BitVec.setWidth 32 (IntOp.cmpi .sle (BitVec.ofNat 32 i.val) (BitVec.ofNat 32 t.val))) : EReal)
      * (FloatOps.sitofp (F := Ideal) .f32 (BitVec.setWidth 32 (IntOp.cmpi .eq (r i) E)) : EReal)) = (upTo r E t : EReal) := by
  unfold upTo
  rw [← Finset.sum_boole]
  refine Finset.sum_congr rfl fun i _ => ?_
  rw [WordCmp.cmpi_sle_ofNat (by omega) (by omega), WordCmp.cmpi_eq_eq, mark_of_bit, mark_of_bit]
  by_cases h1 : i ≤ t <;> by_cases h2 : r i = E <;> simp [h1, h2]

/-- The mark of a served token. -/
theorem mark_served (r : Fin 512 → BitVec 32) (E : BitVec 32) (t : Fin 512) :
    Scalar.select (IntOp.andi (IntOp.cmpi .eq (r t) E) (BitVec.ofBool (decide ((upTo r E t : EReal) ≤ Ideal.ofBits .f32 0x424C0000#32))))
      (1 : EReal) 0 = if Served r E t then 1 else 0 := by
  rw [WordCmp.cmpi_eq_eq, WordCmp.andi_ofBool]
  simp only [natCast_le_fifty_one]
  unfold Served
  by_cases h1 : r t = E <;> by_cases h2 : upTo r E t ≤ 51 <;> simp [h1, h2, Scalar.select]

end Cert.Routed

end
-- ==== Proof.IdealValue.lean ====
/-
# The kernel's result is the routed sum

Every device marks the tokens of its two experts, and adds for a block of tokens the two products of the marked rows;
what a device stores and receives is such a block, so its result adds the four devices' blocks: the sum over the eight
experts of `Routed`.
-/
module

public import proofs.«01_k».proof.Proof.IdealProto
public import proofs.«01_k».proof.Proof.Routed
public import Idealize.ShloMosaic.Lib.Pointwise
public import Idealize.ShloMosaic.Lib.Pipeline.ValueKit.Geometry

@[expose] public section

set_option maxRecDepth 16384

noncomputable section

namespace Cert.KernelIdeal.Exchange

open Cert.KernelIdeal Cert.KernelIdeal.Gen

open Idealize.ShloMosaic
open Idealize.ShloMosaic.TcCoe
open Idealize.SL.Sem
open Cert.Routed

variable (m : (ℓ : Loc nD τ sig) → Buf (Elt Ideal) ℓ) (ρ : Dev nD → PrngReg)

/-- Device `d`'s expert `e` among the eight. -/
def expert (d : Dev nD) (e : Fin 2) : Fin 8 := ⟨2 * d.val + e.val, by have := d.isLt; have : d.val < 4 := this; omega⟩

theorem expert_word (d : Dev nD) (e : Fin 2) :
    IntOp.addi (Scalar.muli (devWord d) 2#32) (BitVec.ofNat 32 e.val) = BitVec.ofNat 32 (expert d e).val := by
  revert d e; decide +kernel

/-! ## The arguments, by coordinates -/

/-- Device `c`'s tokens; -/
def xs (c : Dev nD) (t : Fin 512) (k : Fin 256) : EReal := m ((c : Thread nD τ).loc main_arg0) (ix2 t k)
/-- the experts they name; -/
def rs (c : Dev nD) (t : Fin 512) : BitVec 32 := m ((c : Thread nD τ).loc main_arg2) (ix2 t (0 : Fin 1))
/-- and its own two experts' matrices. -/
def ws (c : Dev nD) (e : Fin 2) (k : Fin 256) (h : Fin 512) : EReal := m ((c : Thread nD τ).loc main_arg3) (ix3 e k h)

/-- Each argument is staged whole. -/
theorem xstg_eq (c : Dev nD) : xstg m ρ c = m ((c : Thread nD τ).loc main_arg0) :=
  funext fun i => congrArg (m ((c : Thread nD τ).loc main_arg0))
    (funext fun a => Fin.ext (Pipeline.Window.rect_emb_val_of_index_zero win0_0 (0 : Fin 1) a rfl i))
theorem istg_eq (c : Dev nD) : istg m ρ c = m ((c : Thread nD τ).loc main_arg2) :=
  funext fun i => congrArg (m ((c : Thread nD τ).loc main_arg2))
    (funext fun a => Fin.ext (Pipeline.Window.rect_emb_val_of_index_zero win0_1 (0 : Fin 1) a rfl i))
theorem wstg_eq (c : Dev nD) : wstg m ρ c = m ((c : Thread nD τ).loc main_arg3) :=
  funext fun i => congrArg (m ((c : Thread nD τ).loc main_arg3))
    (funext fun a => Fin.ext (Pipeline.Window.rect_emb_val_of_index_zero win0_2 (0 : Fin 1) a rfl i))

/-! ## The marks -/

theorem keepAt_apply (c : Dev nD) (t : Fin 512) (e : Fin 2) :
    keepAt m ρ c (ix2 t e) = if Served (rs m c) (BitVec.ofNat 32 (expert c e).val) t then (1 : EReal) else 0 := by
  have hi : ∀ i : Fin 512, iM.view.readAt (Elt Ideal) iR.toLoadRect (istg m ρ c) (ix2 i (0 : Fin 1)) = rs m c i := fun i => by
    rw [istg_eq]
    exact congrFun (Memref.readAt_unit_zero (Elt Ideal) cc0_stg1_0 (off := ![0, 0]) (funext fun a => by fin_cases a <;> rfl) _ _) _
  unfold keepAt
  pointwise [k0_pay1]
  simp only [hi, expert_word, upTo_eq_sum, mark_served]

/-! ## A block -/

/-- What a device's two experts give token `t` at column `h`. -/
def pair (c : Dev nD) (t h : Fin 512) : EReal :=
  (if Served (rs m c) (BitVec.ofNat 32 (expert c 0).val) t then ∑ k, xs m c t k * ws m c 0 k h else 0)
    + if Served (rs m c) (BitVec.ofNat 32 (expert c 1).val) t then ∑ k, xs m c t k * ws m c 1 k h else 0

/-- The two products a block adds: rows `x` marked by `k` and `k'`, through `w` and `w'`. -/
def two (x : Vec Ideal S128x256 .f32) (k : Vec Ideal S128x1 .f32) (w : Vec Ideal S1x256x512 .f32) (k' : Vec Ideal S128x1 .f32)
    (w' : Vec Ideal S1x256x512 .f32) (i : Fin 128) (h : Fin 512) : EReal :=
  (∑ j, x (ix2 i j) * k (ix2 i (0 : Fin 1)) * w (ix3 (0 : Fin 1) j h)) + ∑ j, x (ix2 i j) * k' (ix2 i (0 : Fin 1)) * w' (ix3 (0 : Fin 1) j h)

section
variable (x : Vec Ideal S128x256 .f32) (k : Vec Ideal S128x1 .f32) (w : Vec Ideal S1x256x512 .f32) (k' : Vec Ideal S128x1 .f32)
    (w' : Vec Ideal S1x256x512 .f32) (i : Fin 128) (h : Fin 512)

/-- Each of the four blocks a device computes is `two` of what it read. -/
theorem block_first : k0_pay2 (F := Ideal) x k w k' w' (ix3 (0 : Fin 1) i h) = two x k w k' w' i h := by
  unfold two; pointwise [k0_pay2]
theorem block_second : k0_pay6 (F := Ideal) (k0_pay4 x k w) (k0_pay5 x k') w' (ix3 (0 : Fin 1) i h) = two x k w k' w' i h := by
  unfold two; pointwise [k0_pay3, k0_pay4, k0_pay5, k0_pay6]
theorem block_third : k0_pay8 (F := Ideal) (k0_pay7 x) k w k' w' (ix3 (0 : Fin 1) i h) = two x k w k' w' i h := by
  unfold two; pointwise [k0_pay7, k0_pay8]
theorem block_own : k0_pay10 (F := Ideal) (k0_pay9 x) k w k' w' (ix2 i h) = two x k w k' w' i h := by
  unfold two; pointwise [k0_pay9, k0_pay10]
end

/-! ## What the loads read -/

/-- A load of a block reads the array at the block's offset. -/
theorem load2 {α : Type} {A B : ℕ} (f : (⟨2, ![A, B]⟩ : Shape).Idx → α) {a b : ℕ} (off : Fin 2 → ℕ)
    (inb : ∀ d, off d + (![a, b] : Fin 2 → ℕ) d ≤ (⟨2, ![A, B]⟩ : Shape).size d) (i : Fin a) (j : Fin b) (i' : Fin A) (j' : Fin B)
    (hi : i'.val = off 0 + i.val) (hj : j'.val = off 1 + j.val) :
    f ((Rect.unit (s := ⟨2, ![A, B]⟩) off ![a, b] inb).toLoadRect.idx (ix2 i j)) = f (ix2 i' j') :=
  congrArg f (funext fun d => Fin.ext (by
    match d with
    | ⟨0, _⟩ => show off 0 + 1 * i.val = i'.val; omega
    | ⟨1, _⟩ => show off 1 + 1 * j.val = j'.val; omega))

/-- The offsets of the four blocks, by the device and the block. -/
theorem off_rows (c : Dev nD) (r : Fin 3) : k0_off1 c (BitVec.ofNat 32 (1 + r.val)) = ![128 * ((c.val + 1 + r.val) % 4), 0]
    ∧ k0_off2 c (BitVec.ofNat 32 (1 + r.val)) = ![128 * ((c.val + 1 + r.val) % 4), 0]
    ∧ k0_off3 c (BitVec.ofNat 32 (1 + r.val)) = ![128 * ((c.val + 1 + r.val) % 4), 1] := by
  revert c r; decide +kernel
theorem off_own (c : Dev nD) : k0_off4 c = ![128 * c.val, 0] ∧ k0_off5 c = ![128 * c.val, 0] ∧ k0_off6 c = ![128 * c.val, 1] := by
  revert c; decide +kernel

theorem w0_apply (c : Dev nD) (k : Fin 256) (h : Fin 512) : w0 m ρ c (ix3 (0 : Fin 1) k h) = ws m c 0 k h := by
  show wstg m ρ c _ = _
  rw [wstg_eq]
  exact congrArg (m ((c : Thread nD τ).loc main_arg3)) (funext fun d => Fin.ext (by
    match d with
    | ⟨0, _⟩ => rfl
    | ⟨1, _⟩ => show 0 + 1 * k.val = k.val; omega
    | ⟨2, _⟩ => show 0 + 1 * h.val = h.val; omega))
theorem w1_apply (c : Dev nD) (k : Fin 256) (h : Fin 512) : w1 m ρ c (ix3 (0 : Fin 1) k h) = ws m c 1 k h := by
  show wstg m ρ c _ = _
  rw [wstg_eq]
  exact congrArg (m ((c : Thread nD τ).loc main_arg3)) (funext fun d => Fin.ext (by
    match d with
    | ⟨0, _⟩ => rfl
    | ⟨1, _⟩ => show 0 + 1 * k.val = k.val; omega
    | ⟨2, _⟩ => show 0 + 1 * h.val = h.val; omega))

/-- `two` of a device's tokens, their marks and its experts. -/
theorem two_eq_pair (c : Dev nD) {x : Vec Ideal S128x256 .f32} {k k' : Vec Ideal S128x1 .f32} (i : Fin 128) (t : Fin 512)
    (hx : ∀ j, x (ix2 i j) = xstg m ρ c (ix2 t j)) (hk : k (ix2 i (0 : Fin 1)) = keepAt m ρ c (ix2 t (0 : Fin 2)))
    (hk' : k' (ix2 i (0 : Fin 1)) = keepAt m ρ c (ix2 t (1 : Fin 2))) (h : Fin 512) :
    two x k (w0 m ρ c) k' (w1 m ρ c) i h = pair m c t h := by
  unfold two pair
  simp only [hx, hk, hk', keepAt_apply, w0_apply, w1_apply, xstg_eq]
  rw [← through_marked, ← through_marked]
  rfl

/-- The block `r`: the rows of the device `1 + r` further. -/
theorem two_sent (c : Dev nD) (r : Fin 3) (i : Fin 128) (t h : Fin 512) (ht : t.val = 128 * ((c.val + 1 + r.val) % 4) + i.val) :
    two (xAt m ρ c r) (k0At m ρ c r) (w0 m ρ c) (k1At m ρ c r) (w1 m ρ c) i h = pair m c t h := by
  obtain ⟨h1, h2, h3⟩ := off_rows c r
  refine two_eq_pair m ρ c i t (fun j => ?_) ?_ ?_ h
  · exact load2 _ _ _ _ _ _ _ (by rw [h1]; exact ht) (by rw [h1]; exact (Nat.zero_add _).symm)
  · exact load2 _ _ _ _ _ _ _ (by rw [h2]; exact ht) (by rw [h2]; rfl)
  · exact load2 _ _ _ _ _ _ _ (by rw [h3]; exact ht) (by rw [h3]; rfl)

/-- The own block. -/
theorem ownVal_apply (c : Dev nD) (i : Fin 128) (t h : Fin 512) (ht : t.val = 128 * c.val + i.val) :
    ownVal m ρ c (ix2 i h) = pair m c t h := by
  obtain ⟨h1, h2, h3⟩ := off_own c
  unfold ownVal
  rw [block_own]
  refine two_eq_pair m ρ c i t (fun j => ?_) ?_ ?_ h
  · exact load2 _ _ _ _ _ _ _ (by rw [h1]; exact ht) (by rw [h1]; exact (Nat.zero_add _).symm)
  · exact load2 _ _ _ _ _ _ _ (by rw [h2]; exact ht) (by rw [h2]; rfl)
  · exact load2 _ _ _ _ _ _ _ (by rw [h3]; exact ht) (by rw [h3]; rfl)

/-- The block that each send slot holds: the rows of the device two, one and three further. -/
def ahead : Fin 3 → Fin 3 | 0 => 1 | 1 => 0 | 2 => 2

theorem sendVal_apply (c : Dev nD) (j : Fin 3) (i : Fin 128) (t h : Fin 512)
    (ht : t.val = 128 * ((c.val + 1 + (ahead j).val) % 4) + i.val) :
    sendVal m ρ c j (ix3 (0 : Fin 1) i h) = pair m c t h := by
  match j with
  | 0 => exact (block_first _ _ _ _ _ _ _).trans (two_sent m ρ c 1 i t h ht)
  | 1 => exact (block_second _ _ _ _ _ _ _).trans (two_sent m ρ c 0 i t h ht)
  | 2 => exact (block_third _ _ _ _ _ _ _).trans (two_sent m ρ c 2 i t h ht)

/-- What arrives is the sender's block for the receiver's rows. -/
theorem recvVal_apply (c : Dev nD) (s : Fin 3) (i : Fin 128) (t h : Fin 512) (ht : t.val = 128 * c.val + i.val) :
    recvVal m ρ c s (ix3 (0 : Fin 1) i h) = pair m (fw s c) t h := by
  have hc : ((fw s c).val + 1 + (ahead (js s)).val) % 4 = c.val := by clear ht; revert s c; decide
  exact sendVal_apply m ρ (fw s c) (js s) i t h (by rw [hc]; exact ht)

theorem outAt_apply (c : Dev nD) (i : Fin 128) (t h : Fin 512) (ht : t.val = 128 * c.val + i.val) :
    outAt m ρ c (ix2 i h) = pair m c t h + pair m (fw 0 c) t h + pair m (fw 1 c) t h + pair m (fw 2 c) t h := by
  unfold outAt
  pointwise [k0_pay11]
  rw [ownVal_apply m ρ c i t h ht, recvVal_apply m ρ c 0 i t h ht, recvVal_apply m ρ c 1 i t h ht, recvVal_apply m ρ c 2 i t h ht]

/-- A sum over the devices, starting from any one. -/
theorem sum_around (f : Dev nD → EReal) (c : Dev nD) : f c + f (fw 0 c) + f (fw 1 c) + f (fw 2 c) = ∑ d, f d := by
  rw [show (∑ d, f d) = f 0 + f 1 + f 2 + f 3 from Fin.sum_univ_four f]
  have hc : c = 0 ∨ c = 1 ∨ c = 2 ∨ c = 3 := by revert c; decide
  rcases hc with rfl | rfl | rfl | rfl
  · rfl
  · show f 1 + f 2 + f 3 + f 0 = _; ac_rfl
  · show f 2 + f 3 + f 0 + f 1 = _; ac_rfl
  · show f 3 + f 0 + f 1 + f 2 = _; ac_rfl

/-- Where every device holds the same tokens and choices and its two of the eight matrices, the devices' blocks add up to
    the routed sum. -/
theorem outAt_routed (X : Fin 512 → Fin 256 → EReal) (r : Fin 512 → BitVec 32) (w : Fin 8 → Fin 256 → Fin 512 → EReal)
    (hX : ∀ c, xs m c = X) (hr : ∀ c, rs m c = r) (hw : ∀ c e, ws m c e = w (expert c e))
    (c : Dev nD) (i : Fin 128) (t h : Fin 512) (ht : t.val = 128 * c.val + i.val) :
    outAt m ρ c (ix2 i h) = routed X r w t h := by
  rw [outAt_apply m ρ c i t h ht, sum_around (fun d => pair m d t h) c]
  unfold routed pair through
  simp only [hX, hr, hw]
  rw [show ∀ g : Dev nD → EReal, (∑ d, g d) = g 0 + g 1 + g 2 + g 3 from fun g => Fin.sum_univ_four g, Fin.sum_univ_eight]
  simp only [add_assoc]
  rfl

end Cert.KernelIdeal.Exchange

end
-- ==== Proof.RefOps.lean ====
/-
# Two operations of the reference, read at an index

The running count along the first axis of a table of 0/1 words, and the taking of one matrix per token from a stack of them.
-/
module

public import Idealize.ShloMosaic.Lib.Routing.Ops
public import Idealize.ShloMosaic.Lib.Routing.OpsPair
public import proofs.«01_k».proof.Proof.Routed

@[expose] public section

namespace Cert.Routed

open Idealize.ShloMosaic Idealize.ShloMosaic.ValueIdx Idealize.ShloMosaic.Routing

/-- Position `n` of a one-column window is row `n`. -/
theorem column_row {N : ℕ} (n : Fin (shape2 N 1).numel) : ((shape2 N 1).rowMajor.symm n 0).val = n.val
    ∧ ((shape2 N 1).rowMajor.symm n 1).val = 0 := by
  have hn : n.val < N := by
    have h := n.isLt
    have e : (shape2 N 1).numel = N := by simp [Shape.numel, Fin.prod_univ_two]
    omega
  rw [symm22 n (by rw [Nat.div_one]; exact hn) (by omega)]
  exact ⟨Nat.div_one _, Nat.mod_one _⟩

/-- A running sum down the columns of a table, as a window of the whole height padded above by one less: where column `b`
    holds the words of `f`, row `j` of the result holds `f 0 + … + f j` there. -/
theorem running_sum {N M B : ℕ} (hN : M + 1 = N) (x : IVec (shape2 N B) 32) (f : ℕ → ℕ) (b : Fin B)
    (hx : ∀ i : Fin N, x (ix2 i b) = BitVec.ofNat 32 (f i.val)) (init : IVec shape0 32) (hinit : init ix0 = 0#32)
    (h : (shape2 N B).ReduceWindows (![N, 1] : Fin 2 → ℕ) ![1, 1] ![M, 0] ![0, 0] (shape2 N B)) (hu : 0 < shape0.numel) (j : Fin N) :
    Host.reduceWindow IntOp.addi ![N, 1] ![1, 1] ![M, 0] ![0, 0] x init h hu (ix2 j b)
      = BitVec.ofNat 32 ((List.range (j.val + 1)).map f).sum := by
  subst hN
  have hv : init (Shape.Idx.first hu) = BitVec.ofNat 32 0 := (congrArg init (eq_ix0 _)).trans hinit
  have hj := j.isLt
  have hb := b.isLt
  have hnum : (shape2 (M + 1) 1).numel = M + 1 := by simp [Shape.numel, Fin.prod_univ_two]
  unfold Host.reduceWindow
  refine (foldl_addi_ofNat _ _ (fun n => if M ≤ j.val + n.val then f (j.val + n.val - M) else 0) (fun n _ => ?_) _ 0 hv).trans ?_
  · obtain ⟨hw, hw1⟩ := column_row (N := M + 1) n
    have hn : n.val < M + 1 := (n.cast hnum).isLt
    dsimp only
    split
    · next hin =>
      have h0 := hin 0
      change M ≤ j.val * 1 + ((shape2 (M + 1) 1).rowMajor.symm n 0).val
        ∧ j.val * 1 + ((shape2 (M + 1) 1).rowMajor.symm n 0).val - M < M + 1 at h0
      rw [hw] at h0
      rw [if_pos (by omega)]
      refine (congrArg x (funext fun a => Fin.ext ?_)).trans (hx ⟨j.val + n.val - M, by omega⟩)
      match a with
      | ⟨0, _⟩ =>
        show j.val * 1 + ((shape2 (M + 1) 1).rowMajor.symm n 0).val - M = j.val + n.val - M
        rw [hw, Nat.mul_one]
      | ⟨1, _⟩ =>
        show b.val * 1 + ((shape2 (M + 1) 1).rowMajor.symm n 1).val - 0 = b.val
        rw [hw1]; omega
    · next hin =>
      rw [if_neg fun hle => hin fun a => by
        match a with
        | ⟨0, _⟩ =>
          show M ≤ j.val * 1 + ((shape2 (M + 1) 1).rowMajor.symm n 0).val
            ∧ j.val * 1 + ((shape2 (M + 1) 1).rowMajor.symm n 0).val - M < M + 1
          rw [hw]
          omega
        | ⟨1, _⟩ =>
          show 0 ≤ b.val * 1 + ((shape2 (M + 1) 1).rowMajor.symm n 1).val
            ∧ b.val * 1 + ((shape2 (M + 1) 1).rowMajor.symm n 1).val - 0 < B
          rw [hw1]
          omega]
      exact hv
  · rw [Nat.zero_add, map_finRange_val _ (fun w => if M ≤ j.val + w then f (j.val + w - M) else 0)]
    exact congrArg (BitVec.ofNat 32) ((congrArg (fun K => ((List.range K).map fun w => if M ≤ j.val + w then f (j.val + w - M) else 0).sum)
      hnum).trans (sum_window f M j.val (by omega)))

/-- The 0/1 mark of the tokens that name `E`, by number. -/
def naming (r : Fin 512 → BitVec 32) (E : BitVec 32) (i : ℕ) : ℕ := if h : i < 512 then if r ⟨i, h⟩ = E then 1 else 0 else 0

/-- The running sum of the marks is the count. -/
theorem naming_sum (r : Fin 512 → BitVec 32) (E : BitVec 32) (t : Fin 512) :
    ((List.range (t.val + 1)).map (naming r E)).sum = upTo r E t := by
  have h1 : ((List.range (t.val + 1)).map (naming r E)).sum = ∑ i ∈ Finset.range (t.val + 1), naming r E i := rfl
  have h2 : upTo r E t = ∑ i ∈ Finset.range 512, if i ≤ t.val then naming r E i else 0 := by
    rw [Finset.sum_range]
    unfold upTo
    rw [Finset.card_filter]
    refine Finset.sum_congr rfl fun i _ => ?_
    unfold naming
    rw [dif_pos i.isLt]
    by_cases h : i ≤ t
    · have h' : i.val ≤ t.val := h
      simp [h, h']
    · have h' : ¬i.val ≤ t.val := h
      simp [h, h']
  have ht := t.isLt
  rw [h1, h2, ← Finset.sum_filter]
  refine Finset.sum_congr (Finset.ext fun i => ?_) fun _ _ => rfl
  simp only [Finset.mem_range, Finset.mem_filter]
  omega

end Cert.Routed
-- ==== Proof.RefValue.lean ====
/-
# The reference's result is the routed sum
-/
module

public import proofs.«01_k».proof.Proof.Gen.ReferenceIdeal.Run
public import proofs.«01_k».proof.Proof.RefOps
public import Idealize.ShloMosaic.Lib.Pointwise
public import Idealize.ShloMosaic.Lib.Routing.OpsOrder

@[expose] public section

set_option maxRecDepth 16384

noncomputable section

namespace Cert.ReferenceIdeal.Value

open Cert.ReferenceIdeal Cert.ReferenceIdeal.Gen Idealize.ShloMosaic
open Cert.Routed

/-- Each token's matrix: where a token's word is `E < 8`, expert `E`'s. -/
theorem taken (x : Vec Ideal S8x256x512 .f32) (r : IVec S512x1 32) (t : Fin 512) (k : Fin 256) (h : Fin 512) (E : Fin 8)
    (hE : r (ix2 t (0 : Fin 1)) = BitVec.ofNat 32 E.val) :
    Host.gather gather_S8x256x512_S512x1_S512x256x512_12_0_n_n_0_1_1256512 x r (ix3 t k h) = x (ix3 E k h) := by
  unfold Host.gather
  refine congrArg x (funext fun a => Fin.ext ?_)
  match a with
  | ⟨0, _⟩ =>
    have hm : (0 : Fin 3) ∈ gather_S8x256x512_S512x1_S512x256x512_12_0_n_n_0_1_1256512.startIndexMap := List.mem_singleton.2 rfl
    have hs : GatherDims.start gather_S8x256x512_S512x1_S512x256x512_12_0_n_n_0_1_1256512 (ix3 t k h) r (0 : Fin 3) = E.val := by
      refine (dif_pos hm).trans ?_
      rw [show GatherDims.siIdx gather_S8x256x512_S512x1_S512x256x512_12_0_n_n_0_1_1256512 (ix3 t k h) _ = ix2 t (0 : Fin 1) from by
        funext b; match b with
        | ⟨0, _⟩ => rfl
        | ⟨1, _⟩ => rfl, hE]
      show min (BitVec.ofNat 32 E.val).toInt.toNat 7 = E.val
      clear hE
      revert E; decide
    exact hs
  | ⟨1, _⟩ =>
    show 0 + 0 + k.val = k.val; omega
  | ⟨2, _⟩ =>
    show 0 + 0 + h.val = h.val; omega

/-! ## The result, in parts -/

/-- The experts the tokens name, as a column; -/
def words (R : IVec S512x1 32) : IVec S512x1 32 := broadcastInDim S512x1 ![0] bcast_S512_S512x1_0 (shapeCast _ R shapeCasts_S512x1_S512)
/-- which of the eight each names; -/
def named8 (R : IVec S512x1 32) : IVec S512x8 1 :=
  cmpi .eq (broadcastInDim S512x8 ![0, 1] bcast_S512x1_S512x8_0_1 (words R))
    (broadcastInDim S512x8 ![0, 1] bcast_S1x8_S512x8_0_1 (broadcastInDim S1x8 ![1] bcast_S8_S1x8_1 (iotaInDim S8 32 0)))
/-- how many up to each token name each; -/
def counts (R : IVec S512x1 32) : IVec S512x8 32 :=
  Host.reduceWindow IntOp.addi ![512, 1] ![1, 1] ![511, 0] ![0, 0] (extui 32 (named8 R) natLt_1_32)
    (broadcastInDim S_ ![] bcast_S_S_ (constantI S_ 32 0#32)) reduceWindows_S512x8_S512x8_w512s1p511_0_w1s1p0_0 h_S_
/-- and the result. -/
def out (X : FVec Ideal S512x256 .f32) (R : IVec S512x1 32) (W : FVec Ideal S8x256x512 .f32) : FVec Ideal S512x512 .f32 :=
  select (broadcastInDim S512x512 ![0, 1] bcast_S512x1_S512x512_0_1 (broadcastInDim S512x1 ![0] bcast_S512_S512x1_0
      (Host.reduce IntOp.ori (andi (named8 R) (cmpi .sle (counts R) (broadcastInDim S512x8 ![] bcast_S_S512x8 (constantI S_ 32 51#32))))
        (constantI S_ 1 0#1) reducesTo_S512x8_S512_d1 h_S_)))
    (Host.dotGeneral dot_S512x256_S512x256x512_S512x512_1_1_n_2_0_0 none X
      (Host.gather gather_S8x256x512_S512x1_S512x256x512_12_0_n_n_0_1_1256512 W (words R)))
    (broadcastInDim S512x512 ![] bcast_S_S512x512 (id (constant (F := Ideal) S_ .f32 0x00000000#32)))

section
variable (X : FVec Ideal S512x256 .f32) (R : IVec S512x1 32) (W : FVec Ideal S8x256x512 .f32)

/-- The token's word. -/
def word (t : Fin 512) : BitVec 32 := R (ix2 t (0 : Fin 1))

theorem words_apply (t : Fin 512) : words R (ix2 t (0 : Fin 1)) = word R t := by
  unfold word; pointwise [words]

theorem named8_apply (t : Fin 512) (E : Fin 8) : named8 R (ix2 t E) = IntOp.cmpi .eq (word R t) (BitVec.ofNat 32 E.val) := by
  unfold word; pointwise [named8, words]

theorem counts_apply (t : Fin 512) (E : Fin 8) : counts R (ix2 t E) = BitVec.ofNat 32 (upTo (word R) (BitVec.ofNat 32 E.val) t) := by
  rw [ix2_eq_valueIdx, ← naming_sum]
  refine running_sum (N := 512) (M := 511) rfl _ _ E (fun i => ?_) _ rfl _ _ t
  rw [← ix2_eq_valueIdx]
  show BitVec.setWidth 32 (named8 R (ix2 i E)) = _
  rw [named8_apply, WordCmp.cmpi_eq_eq]
  unfold naming
  rw [dif_pos i.isLt]
  by_cases h : word R i = BitVec.ofNat 32 E.val
  · rw [decide_eq_true h, if_pos h]; rfl
  · rw [decide_eq_false h, if_neg h]; rfl

/-- Whether expert `E` serves token `t`, as the reference's bit. -/
theorem served_bit (t : Fin 512) (E : Fin 8) :
    IntOp.andi (named8 R (ix2 t E)) (IntOp.cmpi .sle (counts R (ix2 t E)) 51#32) = 1#1 ↔ Served (word R) (BitVec.ofNat 32 E.val) t := by
  have hc : upTo (word R) (BitVec.ofNat 32 E.val) t ≤ 512 := by
    unfold upTo
    exact (Finset.card_le_univ _).trans (by simp)
  rw [named8_apply, counts_apply, WordCmp.cmpi_eq_eq, show (51#32 : BitVec 32) = BitVec.ofNat 32 51 from rfl,
    WordCmp.cmpi_sle_ofNat (by omega) (by omega), WordCmp.andi_ofBool]
  unfold Served
  by_cases h1 : word R t = BitVec.ofNat 32 E.val <;> by_cases h2 : upTo (word R) (BitVec.ofNat 32 E.val) t ≤ 51 <;> simp [h1, h2]

/-- The reference keeps a token exactly when some expert serves it. -/
theorem keep_bit (t : Fin 512) :
    Finset.fold IntOp.ori (0#1) (fun x : Fin 8 => IntOp.andi (named8 R (ix2 t x)) (IntOp.cmpi .sle (counts R (ix2 t x)) 51#32)) Finset.univ = 1#1
      ↔ ∃ E : Fin 8, Served (word R) (BitVec.ofNat 32 E.val) t := by
  rw [Routing.fold_ori]
  simp only [served_bit, Finset.mem_univ, true_and]

theorem out_apply (t h : Fin 512) :
    out X R W (ix2 t h) = routed (fun t k => X (ix2 t k)) (word R) (fun e k h => W (ix3 e k h)) t h := by
  unfold out
  pointwise
  generalize hb : Finset.fold IntOp.ori (0#1)
    (fun x => IntOp.andi (named8 R (ix2 t x)) (IntOp.cmpi .sle (counts R (ix2 t x)) 51#32)) Finset.univ = b
  have hk := keep_bit R t
  rw [hb] at hk
  by_cases hs : ∃ E : Fin 8, Served (word R) (BitVec.ofNat 32 E.val) t
  · obtain ⟨E, hE⟩ := id hs
    rw [routed_served hE, hk.2 hs]
    refine (if_pos rfl).trans ?_
    refine Finset.sum_congr rfl fun k _ => ?_
    rw [taken W (words R) t k h E ((words_apply R t).trans hE.1)]
  · rw [routed_dropped fun E hE => hs ⟨E, hE⟩]
    refine (if_neg fun e => hs (hk.1 e)).trans ?_
    show Ideal.ofBits .f32 0#32 = 0
    simp [Ideal.ofBits, Ideal.ieee]
end

end Cert.ReferenceIdeal.Value

end
-- ==== Proof.lean ====
/-
# The claims, proved

The frames come from the two launches (the same proof at each float instance) and from the reference's run.
The results agree because both sides are the routed sum of `Routed`, entry by entry.
-/
module

public import proofs.«01_k».proof.Defs
public import proofs.«01_k».proof.Proof.BitsLaunch
public import proofs.«01_k».proof.Proof.IdealLaunch
public import proofs.«01_k».proof.Proof.IdealValue
public import proofs.«01_k».proof.Proof.RefValue
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun _ h => ⟨Cert.Kernel.Exchange.kept m g h.1, h.2⟩) (Cert.Kernel.Exchange.run_main (F := Bits) m g)

theorem frame_ideal : Cert.quiescent_KernelIdeal := fun m g _ =>
  (θ_run Cert.KernelIdeal.defs _ _).mono (fun _ h => ⟨Cert.KernelIdeal.Exchange.kept m g h.1, h.2⟩)
    (Cert.KernelIdeal.Exchange.run_main (F := Ideal) m g)

/-- The reference has no semaphore. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result on each device is its block of the reference's result. -/
theorem results_agree : Cert.algebraic_KernelIdeal_ReferenceIdeal := fun m g m' g' _ hin => by
  let X := m' (((0 : Dev Cert.ReferenceIdeal.nD).tc : Thread Cert.ReferenceIdeal.nD Cert.ReferenceIdeal.τ).loc Cert.ReferenceIdeal.main_arg0)
  let R := m' (((0 : Dev Cert.ReferenceIdeal.nD).tc : Thread Cert.ReferenceIdeal.nD Cert.ReferenceIdeal.τ).loc Cert.ReferenceIdeal.main_arg2)
  let W := m' (((0 : Dev Cert.ReferenceIdeal.nD).tc : Thread Cert.ReferenceIdeal.nD Cert.ReferenceIdeal.τ).loc Cert.ReferenceIdeal.main_arg3)
  refine ⟨Cert.ReferenceIdeal.Value.out X R W, ?_, ?_⟩
  · refine (θ_run Cert.KernelIdeal.defs _ _).mono (fun r h c => ⟨?_, Cert.KernelIdeal.Exchange.kept m g h.1 c⟩)
      (Cert.KernelIdeal.Exchange.run_main (F := Ideal) m g)
    refine (Cert.KernelIdeal.Exchange.result m g h.1 c).trans (funext fun i => ?_)
    obtain ⟨a, b, rfl⟩ : ∃ (a : Fin 128) (b : Fin 512), i = ix2 a b := ⟨i 0, i 1, funext fun d => by fin_cases d <;> rfl⟩
    have hc : c.val < 4 := c.isLt
    let t : Fin 512 := ⟨128 * c.val + a.val, by omega⟩
    refine (Cert.KernelIdeal.Exchange.outAt_routed m g (fun t k => X (ix2 t k)) (Cert.ReferenceIdeal.Value.word R)
      (fun e k h => W (ix3 e k h)) (fun d => ?_) (fun d => ?_) (fun d e => ?_) c a t b rfl).trans ?_
    · exact funext fun t => funext fun k => congrFun (hin d).1 (ix2 t k)
    · exact funext fun t => congrFun (hin d).2.2.1 (ix2 t (0 : Fin 1))
    · refine funext fun k => funext fun h => (congrFun (hin d).2.2.2 (ix3 e k h)).trans ?_
      rw [Layout.block_apply]
      refine congrArg W (funext fun q => Fin.ext ?_)
      match q with
      | ⟨0, _⟩ => show d.val * 2 + e.val = 2 * d.val + e.val; omega
      | ⟨1, _⟩ => rfl
      | ⟨2, _⟩ => rfl
    · rw [← Cert.ReferenceIdeal.Value.out_apply, Layout.block_apply]
      refine congrArg (Cert.ReferenceIdeal.Value.out X R W) (funext fun q => Fin.ext ?_)
      match q with
      | ⟨0, _⟩ => show 128 * c.val + a.val = c.val * 128 + a.val; omega
      | ⟨1, _⟩ => rfl
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, results_agree⟩

end Cert.Proof

end
